-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_127" .bf16 0x3C01#16 ((1 / 127 : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![2048, 128]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![2048, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![2048, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v50) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S128x256 : Shape := ⟨2, ![128, 256]⟩
abbrev S_ : Shape := ⟨0, ![]⟩

class Facts : Prop where
  bcast_S_S256x128 : S_.BroadcastsInDim S256x128 (![] : Fin 0 → Fin S256x128.rank)
  reducesTo_S256x128_S_d0_1 : S256x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_

variable [Facts]

def fn {F : FTy → Type} [FloatOps F] (main_arg0 : FVec F S256x128 .bf16) (main_arg1 : FVec F S128x16 .bf16) (main_arg2 : IVec S256x1 32) (main_arg3 : FVec F S2x128x256 .bf16) (main_arg4 : FVec F S128x256 .bf16) : IVec S_ 1 :=
  let main_v0 : FVec F S256x128 .bf16 := Host.absf main_arg0
  let main_cst : FVec F S_ .bf16 := constant S_ .bf16 0x7F80#16
  let main_v1 : FVec F S256x128 .bf16 := broadcastInDim S256x128 ![] bcast_S_S256x128 main_cst
  let main_v2 : IVec S256x128 1 := cmpf .olt main_v0 main_v1
  let main_c : IVec S_ 1 := constantI S_ 1 1#1
  let main_v3 : IVec S_ 1 := (fun x v => Host.reduce IntOp.andi x v reducesTo_S256x128_S_d0_1 h_S_) main_v2 main_c
  let main_v4 : FVec F S128x16 .bf16 := Host.absf main_arg1
  let main_cst_0 : FVec F S_ .bf16 := constant S_ .bf16 0x7F80#16
  let main_v5 : FVec F S128x16 .bf16 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  main_v8
-- ==== Pre_finite_ReferenceIdeal.lean ====
abbrev S2048x128 : Shape := ⟨2, ![2048, 128]⟩
abbrev S128x16 : Shape := ⟨2, ![128, 16]⟩
abbrev S2048x1 : Shape := ⟨2, ![2048, 1]⟩
abbrev S16x128x256 : Shape := ⟨3, ![16, 128, 256]⟩
abbrev S128x256 : Shape := ⟨2, ![128, 256]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_

variable [Facts]

def fn {F : FTy → Type} [FloatOps F] (main_arg0 : FVec F S2048x128 .bf16) (main_arg1 : FVec F S128x16 .bf16) (main_arg2 : IVec S2048x1 32) (main_arg3 : FVec F S16x128x256 .bf16) (main_arg4 : FVec F S128x256 .bf16) : IVec S_ 1 :=
  let main_v0 : FVec F S2048x128 .bf16 := Host.absf main_arg0
  let main_cst : FVec F S_ .bf16 := constant S_ .bf16 0x7F80#16
  let main_v1 : FVec F S2048x128 .bf16 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S128x16 .bf16 := Host.absf main_arg1
  let main_cst_0 : FVec F S_ .bf16 := constant S_ .bf16 0x7F80#16
  let main_v5 : FVec F S128x16 .bf16 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  main_v8
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S2x256 : Shape := ⟨2, ![2, 256]⟩
abbrev S7x256x256 : Shape := ⟨3, ![7, 256, 256]⟩
abbrev S7x2x256 : Shape := ⟨3, ![7, 2, 256]⟩
abbrev S14 : Shape := ⟨1, ![14]⟩
abbrev S_ : Shape := ⟨0, ![]⟩
abbrev S1x128x256 : Shape := ⟨3, ![1, 128, 256]⟩
abbrev S256 : Shape := ⟨1, ![256]⟩
abbrev S1x256 : Shape := ⟨2, ![1, 256]⟩
abbrev S1 : Shape := ⟨1, ![1]⟩
abbrev S1x256x256 : Shape := ⟨3, ![1, 256, 256]⟩
abbrev S1x2x256 : Shape := ⟨3, ![1, 2, 256]⟩
abbrev S256x16 : Shape := ⟨2, ![256, 16]⟩

abbrev nBuf : Space → Nat
  | .hbm => 6
  | .vmem => 10
  | .smem => 0
  | _ => 0

abbrev bufTy : (tb : Table) → Fin (tcTables nBuf tb) → BufTy
  | .hbm, ⟨0, _⟩ => ⟨S256x128, .bf16⟩
  | .hbm, ⟨1, _⟩ => ⟨S128x16, .bf16⟩
  | .hbm, ⟨2, _⟩ => ⟨S256x1, .i32⟩
  | .hbm, ⟨3, _⟩ => ⟨S2x128x256, .bf16⟩
  | .hbm, ⟨4, _⟩ => ⟨S128x256, .bf16⟩
  | .hbm, ⟨5, _⟩ => ⟨S256x256, .f32⟩
  | .local _ .vmem, ⟨0, _⟩ => ⟨S256x128, .bf16⟩
  | .local _ .vmem, ⟨1, _⟩ => ⟨S128x16, .bf16⟩
  | .local _ .vmem, ⟨2, _⟩ => ⟨S256x1, .i32⟩
  | .local _ .vmem, ⟨3, _⟩ => ⟨S2x128x256, .bf16⟩
  | .local _ .vmem, ⟨4, _⟩ => ⟨S128x256, .bf16⟩
  | .local _ .vmem, ⟨5, _⟩ => ⟨S256x256, .f32⟩
  | .local _ .vmem, ⟨6, _⟩ => ⟨S256x256, .i8⟩
  | .local _ .vmem, ⟨7, _⟩ => ⟨S2x256, .f32⟩
  | .local _ .vmem, ⟨8, _⟩ => ⟨S7x256x256, .i8⟩
  | .local _ .vmem, ⟨9, _⟩ => ⟨S7x2x256, .f32⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v82 : BitVec 32 := Scalar.addi v2 c1_i32_49
  let c8_i32_50 : BitVec 32 := 8#32
  let v83 : BitVec 32 := Scalar.remsi v82 c8_i32_50
  let c1_i32_54 : BitVec 32 := 1#32
  let v84 : BitVec 32 := Scalar.muli v83 c1_i32_54
  let v85 : BitVec 32 := Scalar.addi c0_i32_55 v84
  v85.toNat
def k0_dev9 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_49 : BitVec 32 := 1#32
  let v82 : BitVec 32 := Scalar.addi v2 c1_i32_49
  let c8_i32_50 : BitVec 32 := 8#32
  let v83 : BitVec 32 := Scalar.remsi v82 c8_i32_50
  let c1_i32_61 : BitVec 32 := 1#32
  let v92 : BitVec 32 := Scalar.muli v83 c1_i32_61
  let v93 : BitVec 32 := Scalar.addi c0_i32_62 v92
  v93.toNat
def k0_dev10 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_65 : BitVec 32 := 2#32
  let v100 : BitVec 32 := Scalar.addi v2 c2_i32_65
  let c8_i32_66 : BitVec 32 := 8#32
  let v101 : BitVec 32 := Scalar.remsi v100 c8_i32_66
  let c1_i32_70 : BitVec 32 := 1#32
  let v102 : BitVec 32 := Scalar.muli v101 c1_i32_70
  let v103 : BitVec 32 := Scalar.addi c0_i32_71 v102
  v103.toNat
def k0_dev11 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_65 : BitVec 32 := 2#32
  let v100 : BitVec 32 := Scalar.addi v2 c2_i32_65
  let c8_i32_66 : BitVec 32 := 8#32
  let v101 : BitVec 32 := Scalar.remsi v100 c8_i32_66
  let c1_i32_77 : BitVec 32 := 1#32
  let v110 : BitVec 32 := Scalar.muli v101 c1_i32_77
  let v111 : BitVec 32 := Scalar.addi c0_i32_78 v110
  v111.toNat
def k0_dev12 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_81 : BitVec 32 := 3#32
  let v118 : BitVec 32 := Scalar.addi v2 c3_i32_81
  let c8_i32_82 : BitVec 32 := 8#32
  let v119 : BitVec 32 := Scalar.remsi v118 c8_i32_82
  let c1_i32_86 : BitVec 32 := 1#32
  let v120 : BitVec 32 := Scalar.muli v119 c1_i32_86
  let v121 : BitVec 32 := Scalar.addi c0_i32_87 v120
  v121.toNat
def k0_dev13 (d0 : Dev nD) : Nat :=
  let c0_i32_93 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_81 : BitVec 32 := 3#32
  let v118 : BitVec 32 := Scalar.addi v2 c3_i32_81
  let c8_i32_82 : BitVec 32 := 8#32
  let v119 : BitVec 32 := Scalar.remsi v118 c8_i32_82
  let c1_i32_92 : BitVec 32 := 1#32
  let v128 : BitVec 32 := Scalar.muli v119 c1_i32_92
  let v129 : BitVec 32 := Scalar.addi c0_i32_93 v128
  v129.toNat
def k0_dev14 (d0 : Dev nD) : Nat :=
  let c0_i32_102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_96 : BitVec 32 := 4#32
  let v136 : BitVec 32 := Scalar.addi v2 c4_i32_96
  let c8_i32_97 : BitVec 32 := 8#32
  let v137 : BitVec 32 := Scalar.remsi v136 c8_i32_97
  let c1_i32_101 : BitVec 32 := 1#32
  let v138 : BitVec 32 := Scalar.muli v137 c1_i32_101
  let v139 : BitVec 32 := Scalar.addi c0_i32_102 v138
  v139.toNat
def k0_dev15 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_96 : BitVec 32 := 4#32
  let v136 : BitVec 32 := Scalar.addi v2 c4_i32_96
  let c8_i32_97 : BitVec 32 := 8#32
  let v137 : BitVec 32 := Scalar.remsi v136 c8_i32_97
  let c1_i32_107 : BitVec 32 := 1#32
  let v146 : BitVec 32 := Scalar.muli v137 c1_i32_107
  let v147 : BitVec 32 := Scalar.addi c0_i32_108 v146
  v147.toNat
def k0_dev16 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_111 : BitVec 32 := 5#32
  let v154 : BitVec 32 := Scalar.addi v2 c5_i32_111
  let c8_i32_112 : BitVec 32 := 8#32
  let v155 : BitVec 32 := Scalar.remsi v154 c8_i32_112
  let c1_i32_116 : BitVec 32 := 1#32
  let v156 : BitVec 32 := Scalar.muli v155 c1_i32_116
  let v157 : BitVec 32 := Scalar.addi c0_i32_117 v156
  v157.toNat
def k0_dev17 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_111 : BitVec 32 := 5#32
  let v154 : BitVec 32 := Scalar.addi v2 c5_i32_111
  let c8_i32_112 : BitVec 32 := 8#32
  let v155 : BitVec 32 := Scalar.remsi v154 c8_i32_112
  let c1_i32_122 : BitVec 32 := 1#32
  let v164 : BitVec 32 := Scalar.muli v155 c1_i32_122
  let v165 : BitVec 32 := Scalar.addi c0_i32_123 v164
  v165.toNat
def k0_dev18 (d0 : Dev nD) : Nat :=
  let c0_i32_132 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_126 : BitVec 32 := 6#32
  let v172 : BitVec 32 := Scalar.addi v2 c6_i32_126
  let c8_i32_127 : BitVec 32 := 8#32
  let v173 : BitVec 32 := Scalar.remsi v172 c8_i32_127
  let c1_i32_131 : BitVec 32 := 1#32
  let v174 : BitVec 32 := Scalar.muli v173 c1_i32_131
  let v175 : BitVec 32 := Scalar.addi c0_i32_132 v174
  v175.toNat
def k0_dev19 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_126 : BitVec 32 := 6#32
  let v172 : BitVec 32 := Scalar.addi v2 c6_i32_126
  let c8_i32_127 : BitVec 32 := 8#32
  let v173 : BitVec 32 := Scalar.remsi v172 c8_i32_127
  let c1_i32_137 : BitVec 32 := 1#32
  let v182 : BitVec 32 := Scalar.muli v173 c1_i32_137
  let v183 : BitVec 32 := Scalar.addi c0_i32_138 v182
  v183.toNat
def k0_dev20 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_141 : BitVec 32 := 7#32
  let v190 : BitVec 32 := Scalar.addi v2 c7_i32_141
  let c8_i32_142 : BitVec 32 := 8#32
  let v191 : BitVec 32 := Scalar.remsi v190 c8_i32_142
  let c1_i32_146 : BitVec 32 := 1#32
  let v192 : BitVec 32 := Scalar.muli v191 c1_i32_146
  let v193 : BitVec 32 := Scalar.addi c0_i32_147 v192
  v193.toNat
def k0_dev21 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_141 : BitVec 32 := 7#32
  let v190 : BitVec 32 := Scalar.addi v2 c7_i32_141
  let c8_i32_142 : BitVec 32 := 8#32
  let v191 : BitVec 32 := Scalar.remsi v190 c8_i32_142
  let c1_i32_152 : BitVec 32 := 1#32
  let v200 : BitVec 32 := Scalar.muli v191 c1_i32_152
  let v201 : BitVec 32 := Scalar.addi c0_i32_153 v200
  v201.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "inv_127" => some ((1 / 127 : ℝ) : EReal)
  | _ => none
-- ==== ReferenceIdeal.lean ====
abbrev S2048x128 : Shape := ⟨2, ![2048, 128]⟩
abbrev S128x16 : Shape := ⟨2, ![128, 16]⟩
abbrev S2048x1 : Shape := ⟨2, ![2048, 1]⟩
abbrev S16x128x256 : Shape := ⟨3, ![16, 128, 256]⟩
abbrev S128x256 : Shape := ⟨2, ![128, 256]⟩
abbrev S2048x16 : Shape := ⟨2, ![2048, 16]⟩
abbrev S_ : Shape := ⟨0, ![]⟩
abbrev S2048 : Shape := ⟨1, ![2048]⟩
abbrev S1x16 : Shape := ⟨2, ![1, 16]⟩
abbrev S16x256 : Shape := ⟨2, ![16, 256]⟩
abbrev S16x1x256 : Shape := ⟨3, ![16, 1, 256]⟩
abbrev S8x256 : Shape := ⟨2, ![8, 256]⟩
abbrev S8x2 : Shape := ⟨2, ![8, 2]⟩
abbrev S2048x16x256 : Shape := ⟨3, ![2048, 16, 256]⟩
abbrev S2048x256 : Shape := ⟨2, ![2048, 256]⟩
abbrev S2048x16x1 : Shape := ⟨3, ![2048, 16, 1]⟩

abbrev nBuf : Space → Nat
  | .hbm => 72
  | .vmem => 0
  | .smem => 0
  | _ => 0

abbrev bufTy : (tb : Table) → Fin (tcTables nBuf tb) → BufTy
  | .hbm, ⟨0, _⟩ => ⟨S2048x128, .bf16⟩
  | .hbm, ⟨1, _⟩ => ⟨S128x16, .bf16⟩
  | .hbm, ⟨2, _⟩ => ⟨S2048x1, .i32⟩
  | .hbm, ⟨3, _⟩ => ⟨S16x128x256, .bf16⟩
  | .hbm, ⟨4, _⟩ => ⟨S128x256, .bf16⟩
  | .hbm, ⟨5, _⟩ => ⟨S2048x16, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x16, .f32⟩
  | .hbm, ⟨16, _⟩ => ⟨S2048x16, .f32⟩
  | .hbm, ⟨17, _⟩ => ⟨S1x16, .i32⟩
  | .hbm, ⟨18, _⟩ => ⟨S2048x16, .i32⟩
  | .hbm, ⟨19, _⟩ => ⟨S2048x16, .i32⟩
  | .hbm, ⟨20, _⟩ => ⟨S2048x16, .i1⟩
  | .hbm, ⟨21, _⟩ => ⟨S_, .f32⟩
  | .hbm, ⟨22, _⟩ => ⟨S_, .f32⟩
  | .hbm, ⟨23, _⟩ => ⟨S2048x16, .f32⟩
  | .hbm, ⟨24, _⟩ => ⟨S2048x16, .f32⟩
  | .hbm, ⟨25, _⟩ => ⟨S16x128x256, .bf16⟩
  | .hbm, ⟨26, _⟩ => ⟨S_, .bf16⟩
  | .hbm, ⟨27, _⟩ => ⟨S16x256, .bf16⟩
  | .hbm, ⟨28, _⟩ => ⟨S16x1x256, .bf16⟩
  | .hbm, ⟨29, _⟩ => ⟨S_, .bf16⟩
  | .hbm, ⟨30, _⟩ => ⟨S16x1x256, .bf16⟩
  | .hbm, ⟨31, _⟩ => ⟨S16x1x256, .i1⟩
  | .hbm, ⟨32, _⟩ => ⟨S_, .bf16⟩
  | .hbm, ⟨33, _⟩ => ⟨S16x1x256, .bf16⟩
  | .hbm, ⟨34, _⟩ => ⟨S16x1x256, .bf16⟩
  | .hbm, ⟨35, _⟩ => ⟨S_, .f32⟩
  | .hbm, ⟨36, _⟩ => ⟨S_, .bf16⟩
  | .hbm, ⟨37, _⟩ => ⟨S16x1x256, .bf16⟩
  | .hbm, ⟨38, _⟩ => ⟨S16x1x256, .bf16⟩
  | .hbm, ⟨39, _⟩ => ⟨S16x128x256, .bf16⟩
  | .hbm, ⟨40, _⟩ => ⟨S16x128x256, .bf16⟩
  | .hbm, ⟨41, _⟩ => ⟨S16x128x256, .bf16⟩
  | .hbm, ⟨42, _⟩ => ⟨S_, .bf16⟩
  | .hbm, ⟨43, _⟩ => ⟨S16x128x256, .bf16⟩
  | .hbm, ⟨44, _⟩ => ⟨S16x128x256, .bf16⟩
  | .hbm, ⟨45, _⟩ => ⟨S_, .bf16⟩
  | .hbm, ⟨46, _⟩ => ⟨S16x128x256, .bf16⟩
  | .hbm, ⟨47, _⟩ => ⟨S16x128x256, .bf16⟩
  | .hbm, ⟨48, _⟩ => ⟨S_, .bf16⟩
  | .hbm, ⟨49, _⟩ => ⟨S16x1x256, .bf16⟩
  | .hbm, ⟨50, _⟩ => ⟨S16x1x256, .bf16⟩
  | .hbm, ⟨51, _⟩ => ⟨S16x128x256, .bf16⟩
  | .hbm, ⟨52, _⟩ => ⟨S16x128x256, .bf16⟩
  | .hbm, ⟨53, _⟩ => ⟨S8x256, .i32⟩
  | .hbm, ⟨54, _⟩ => ⟨S2048x1, .i32⟩
  | .hbm, ⟨55, _⟩ => ⟨S8x2, .i32⟩
  | .hbm, ⟨56, _⟩ => ⟨S1x16, .i32⟩
  | .hbm, ⟨57, _⟩ => ⟨S2048x16, .i32⟩
  | .hbm, ⟨58, _⟩ => ⟨S2048x16, .i32⟩
  | .hbm, ⟨59, _⟩ => ⟨S2048x16, .i1⟩
  | .hbm, ⟨60, _⟩ => ⟨S2048x16x256, .f32⟩
  | .hbm, ⟨61, _⟩ => ⟨S2048x16x256, .f32⟩
  | .hbm, ⟨62, _⟩ => ⟨S2048x256, .f32⟩
  | .hbm, ⟨63, _⟩ => ⟨S2048x16x1, .f32⟩
  | .hbm, ⟨64, _⟩ => ⟨S2048x16x1, .i1⟩
  | .hbm, ⟨65, _⟩ => ⟨S2048x16x256, .i1⟩
  | .hbm, ⟨66, _⟩ => ⟨S2048x16x256, .f32⟩
  | .hbm, ⟨67, _⟩ => ⟨S2048x16x256, .f32⟩
  | .hbm, ⟨68, _⟩ => ⟨S2048x16x256, .f32⟩
  | .hbm, ⟨69, _⟩ => ⟨S_, .f32⟩
  | .hbm, ⟨70, _⟩ => ⟨S2048x256, .f32⟩
  | .hbm, ⟨71, _⟩ => ⟨S2048x256, .f32⟩
  | _, _ => ⟨S2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_call1_v0 : Ref sig .tc := ⟨.hbm, 36, rfl⟩
abbrev main_call1_v1 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call3_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩

abbrev nD : Nat := 1
abbrev τ : Topo := Topo.v7x

variable {F : FTy → Type} [FloatOps F]
-- ==== Proof.Protocol.lean ====
/-
  The all-gather of the quantised expert weights, as a protocol.

  Eight devices stand on a ring. Device `c` first signals the barrier semaphore of each of the seven others and waits for
  seven units on its own; then it writes its two experts' codes and scales into two local buffers and copies both buffers
  to each of the seven others: the copy number `k` goes to the device `k + 1` places ahead, into slot `k` there. It waits
  for the fourteen copies that come to it, uses them, and last waits for its own fourteen copies to have been read.

  Here are the semaphore cells, the landing slots, what every buffer holds, the schedule of the one round each cell has,
  and what each device owes at launch.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueLayout
public import Idealize.ShloMosaic.Lib.ValueIdxCore
public import Idealize.ShloMosaic.Lib.Exec.Geometry

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix2 ix3 eq_ix2 eq_ix3)

variable {F : FTy → Type} [FloatOps F] [Named F]

/-- The copies' resource algebra: a cell's duties are named by the seven places on the ring. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

set_option backward.proofsInPublic true in
/-- The device `k + 1` places ahead of `c`. -/
def fwd (k : Fin 7) (c : Dev nD) : Dev nD := ⟨(c.val + (k.val + 1)) % 8, Nat.mod_lt _ (by decide)⟩

set_option backward.proofsInPublic true in
/-- The step that undoes step `k`: `k + 1` and `7 - k` make a whole turn. -/
def opp (k : Fin 7) : Fin 7 := ⟨6 - k.val, by have := k.isLt; omega⟩

/-- The device `k + 1` places behind `c`. -/
abbrev bwd (k : Fin 7) (c : Dev nD) : Dev nD := fwd (opp k) c

theorem opp_opp (k : Fin 7) : opp (opp k) = k := by revert k; decide
theorem fwd_bwd (k : Fin 7) (c : Dev nD) : fwd k (bwd k c) = c := by revert k c; decide
theorem bwd_fwd (k : Fin 7) (c : Dev nD) : bwd k (fwd k c) = c := by revert k c; decide
theorem fwd_inj {k j : Fin 7} {c : Dev nD} (h : fwd k c = fwd j c) : k = j := by revert k j c; decide

/-- The kernel's device chains: signals one to seven, then the fourteen copies two by two. -/
theorem dev1_eq (c : Dev nD) : (⟨k0_dev1 c, k0_dev1_lt c⟩ : Dev nD) = fwd 0 c := Fin.ext (k0_dev1_eq c)
theorem dev2_eq (c : Dev nD) : (⟨k0_dev2 c, k0_dev2_lt c⟩ : Dev nD) = fwd 1 c := Fin.ext (k0_dev2_eq c)
theorem dev3_eq (c : Dev nD) : (⟨k0_dev3 c, k0_dev3_lt c⟩ : Dev nD) = fwd 2 c := Fin.ext (k0_dev3_eq c)
theorem dev4_eq (c : Dev nD) : (⟨k0_dev4 c, k0_dev4_lt c⟩ : Dev nD) = fwd 3 c := Fin.ext (k0_dev4_eq c)
theorem dev5_eq (c : Dev nD) : (⟨k0_dev5 c, k0_dev5_lt c⟩ : Dev nD) = fwd 4 c := Fin.ext (k0_dev5_eq c)
theorem dev6_eq (c : Dev nD) : (⟨k0_dev6 c, k0_dev6_lt c⟩ : Dev nD) = fwd 5 c := Fin.ext (k0_dev6_eq c)
theorem dev7_eq (c : Dev nD) : (⟨k0_dev7 c, k0_dev7_lt c⟩ : Dev nD) = fwd 6 c := Fin.ext (k0_dev7_eq c)
theorem dev8_eq (c : Dev nD) : (⟨k0_dev8 c, k0_dev8_lt c⟩ : Dev nD) = fwd 0 c := Fin.ext (k0_dev8_eq c)
theorem dev9_eq (c : Dev nD) : (⟨k0_dev9 c, k0_dev9_lt c⟩ : Dev nD) = fwd 0 c := Fin.ext (k0_dev9_eq c)
theorem dev10_eq (c : Dev nD) : (⟨k0_dev10 c, k0_dev10_lt c⟩ : Dev nD) = fwd 1 c := Fin.ext (k0_dev10_eq c)
theorem dev11_eq (c : Dev nD) : (⟨k0_dev11 c, k0_dev11_lt c⟩ : Dev nD) = fwd 1 c := Fin.ext (k0_dev11_eq c)
theorem dev12_eq (c : Dev nD) : (⟨k0_dev12 c, k0_dev12_lt c⟩ : Dev nD) = fwd 2 c := Fin.ext (k0_dev12_eq c)
theorem dev13_eq (c : Dev nD) : (⟨k0_dev13 c, k0_dev13_lt c⟩ : Dev nD) = fwd 2 c := Fin.ext (k0_dev13_eq c)
theorem dev14_eq (c : Dev nD) : (⟨k0_dev14 c, k0_dev14_lt c⟩ : Dev nD) = fwd 3 c := Fin.ext (k0_dev14_eq c)
theorem dev15_eq (c : Dev nD) : (⟨k0_dev15 c, k0_dev15_lt c⟩ : Dev nD) = fwd 3 c := Fin.ext (k0_dev15_eq c)
theorem dev16_eq (c : Dev nD) : (⟨k0_dev16 c, k0_dev16_lt c⟩ : Dev nD) = fwd 4 c := Fin.ext (k0_dev16_eq c)
theorem dev17_eq (c : Dev nD) : (⟨k0_dev17 c, k0_dev17_lt c⟩ : Dev nD) = fwd 4 c := Fin.ext (k0_dev17_eq c)
theorem dev18_eq (c : Dev nD) : (⟨k0_dev18 c, k0_dev18_lt c⟩ : Dev nD) = fwd 5 c := Fin.ext (k0_dev18_eq c)
theorem dev19_eq (c : Dev nD) : (⟨k0_dev19 c, k0_dev19_lt c⟩ : Dev nD) = fwd 5 c := Fin.ext (k0_dev19_eq c)
theorem dev20_eq (c : Dev nD) : (⟨k0_dev20 c, k0_dev20_lt c⟩ : Dev nD) = fwd 6 c := Fin.ext (k0_dev20_eq c)
theorem dev21_eq (c : Dev nD) : (⟨k0_dev21 c, k0_dev21_lt c⟩ : Dev nD) = fwd 6 c := Fin.ext (k0_dev21_eq c)

/-! ## The memrefs -/

abbrev xM : Memref sig .tc .vmem S256x128 .bf16 := Memref.whole cc0_stg0_0
abbrev rM : Memref sig .tc .vmem S128x16 .bf16 := Memref.whole cc0_stg1_0
abbrev iM : Memref sig .tc .vmem S256x1 .i32 := Memref.whole cc0_stg2_0
abbrev wM : Memref sig .tc .vmem S2x128x256 .bf16 := Memref.whole cc0_stg3_0
abbrev hM : Memref sig .tc .vmem S128x256 .bf16 := Memref.whole cc0_stg4_0
abbrev oM : Memref sig .tc .vmem S256x256 .f32 := Memref.whole cc0_stg5_0
/-- The codes to send, the scales to send, the codes that arrive, the scales that arrive. -/
abbrev qM : Memref sig .tc .vmem S256x256 .i8 := Memref.whole cc0_scratch0
abbrev sM : Memref sig .tc .vmem S2x256 .f32 := Memref.whole cc0_scratch1
abbrev cqM : Memref sig .tc .vmem S7x256x256 .i8 := Memref.whole cc0_scratch2
abbrev csM : Memref sig .tc .vmem S7x2x256 .f32 := Memref.whole cc0_scratch3

theorem inbQ (k : Fin 7) : ∀ a, (![k.val, 0, 0] : Fin 3 → ℕ) a + S1x256x256.size a ≤ S7x256x256.size a := by revert k; decide
theorem inbS (k : Fin 7) : ∀ a, (![k.val, 0, 0] : Fin 3 → ℕ) a + S1x2x256.size a ≤ S7x2x256.size a := by revert k; decide

abbrev rectQ (k : Fin 7) : Rect S7x256x256 := Rect.unit (s := S7x256x256) ![k.val, 0, 0] S1x256x256.size (inbQ k)
abbrev rectS (k : Fin 7) : Rect S7x2x256 := Rect.unit (s := S7x2x256) ![k.val, 0, 0] S1x2x256.size (inbS k)

/-- Slot `k` of the arriving codes, as a matrix; slot `k` of the arriving scales. -/
abbrev slotQ (k : Fin 7) : Memref sig .tc .vmem S256x256 .i8 :=
  (cqM.slice (rectQ k) (fun _ => rfl)).squeeze S256x256 squeezes_S1x256x256_S256x256
abbrev slotS (k : Fin 7) : Memref sig .tc .vmem S2x256 .f32 :=
  (csM.slice (rectS k) (fun _ => rfl)).squeeze S2x256 squeezes_S1x2x256_S2x256

theorem slotQ_emb (k : Fin 7) (a : Fin 256) (b : Fin 256) : (slotQ k).view.emb (ix2 a b) = ix3 k a b := by
  show (rectQ k).emb (Shape.reshapeEquiv _ (ix2 a b)) = _
  rw [ValueIdx.reshapeEquiv_ix2_1ab]
  funext d; apply Fin.ext
  match d with
  | ⟨0, _⟩ => show k.val + 1 * 0 = _; rw [Nat.mul_zero, Nat.add_zero]
  | ⟨1, _⟩ => show 0 + 1 * a.val = _; rw [Nat.one_mul, Nat.zero_add]
  | ⟨2, _⟩ => show 0 + 1 * b.val = _; rw [Nat.one_mul, Nat.zero_add]

theorem slotS_emb (k : Fin 7) (a : Fin 2) (b : Fin 256) : (slotS k).view.emb (ix2 a b) = ix3 k a b := by
  show (rectS k).emb (Shape.reshapeEquiv _ (ix2 a b)) = _
  rw [ValueIdx.reshapeEquiv_ix2_1ab]
  funext d; apply Fin.ext
  match d with
  | ⟨0, _⟩ => show k.val + 1 * 0 = _; rw [Nat.mul_zero, Nat.add_zero]
  | ⟨1, _⟩ => show 0 + 1 * a.val = _; rw [Nat.one_mul, Nat.zero_add]
  | ⟨2, _⟩ => show 0 + 1 * b.val = _; rw [Nat.one_mul, Nat.zero_add]

/-- A slot's elements: those whose first coordinate is the slot's number. -/
abbrev setQ (k : Fin 7) : Finset S7x256x256.Idx := (slotQ k).view.set

theorem mem_slotQ (k : Fin 7) (i : S7x256x256.Idx) : i ∈ setQ k ↔ i 0 = k := by
  constructor
  · intro h
    obtain ⟨x, hx⟩ := Finset.mem_map.mp h
    obtain ⟨-, rfl⟩ := hx
    obtain ⟨p, q, rfl⟩ : ∃ (p : Fin 256) (q : Fin 256), x = ix2 p q := ⟨x 0, x 1, eq_ix2 x⟩
    rw [slotQ_emb]
  · rintro rfl
    exact Finset.mem_map.mpr ⟨ix2 (i 1) (i 2), Finset.mem_univ _, (slotQ_emb _ _ _).trans (eq_ix3 i).symm⟩
abbrev setS (k : Fin 7) : Finset S7x2x256.Idx := (slotS k).view.set

theorem mem_slotS (k : Fin 7) (i : S7x2x256.Idx) : i ∈ setS k ↔ i 0 = k := by
  constructor
  · intro h
    obtain ⟨x, hx⟩ := Finset.mem_map.mp h
    obtain ⟨-, rfl⟩ := hx
    obtain ⟨p, q, rfl⟩ : ∃ (p : Fin 2) (q : Fin 256), x = ix2 p q := ⟨x 0, x 1, eq_ix2 x⟩
    rw [slotS_emb]
  · rintro rfl
    exact Finset.mem_map.mpr ⟨ix2 (i 1) (i 2), Finset.mem_univ _, (slotS_emb _ _ _).trans (eq_ix3 i).symm⟩

theorem slotQ_disj : ∀ k j : Fin 7, k ≠ j → Disjoint (setQ k) (setQ j) := fun k j h =>
  Finset.disjoint_left.mpr fun i hk hj => h (((mem_slotQ k i).mp hk).symm.trans ((mem_slotQ j i).mp hj))
theorem slotS_disj : ∀ k j : Fin 7, k ≠ j → Disjoint (setS k) (setS j) := fun k j h =>
  Finset.disjoint_left.mpr fun i hk hj => h (((mem_slotS k i).mp hk).symm.trans ((mem_slotS j i).mp hj))
theorem slotQ_cover : (Finset.univ : Finset (Fin 7)).biUnion setQ = Finset.univ :=
  Finset.eq_univ_iff_forall.mpr fun i => Finset.mem_biUnion.mpr ⟨i 0, Finset.mem_univ _, (mem_slotQ _ i).mpr rfl⟩
theorem slotS_cover : (Finset.univ : Finset (Fin 7)).biUnion setS = Finset.univ :=
  Finset.eq_univ_iff_forall.mpr fun i => Finset.mem_biUnion.mpr ⟨i 0, Finset.mem_univ _, (mem_slotS _ i).mpr rfl⟩

/-! ## The cells -/

/-- A copy: codes (`false`) or scales (`true`), and how far it goes. -/
abbrev Ch : Type := Bool × Fin 7

/-- The barrier semaphore (of the run-time system, not scoped to the launch). -/
abbrev barS : Sem sig := (SemArray.scalar (sig.barrier 0 rfl) : Sems sig S_).sem

theorem semLt (n : ℕ) (h : n = 6 ∨ n = 20) (ch : Ch) : n + (7 * ch.1.toNat + ch.2.val) < sig.nDmaSem := by
  show _ < 34
  have := ch.2.isLt
  rcases ch with ⟨b, k⟩
  rcases h with rfl | rfl <;> cases b <;> simp only [Bool.toNat_false, Bool.toNat_true] <;> dsimp only at this <;> omega

/-- A copy's send semaphore (on the sender) and its receive semaphore (on the receiver). -/
def sndS (ch : Ch) : DmaSem sig := ⟨6 + (7 * ch.1.toNat + ch.2.val), semLt 6 (.inl rfl) ch⟩
def rcvS (ch : Ch) : DmaSem sig := ⟨20 + (7 * ch.1.toNat + ch.2.val), semLt 20 (.inr rfl) ch⟩

abbrev barCell (c : Dev nD) : GSem nD τ sig := ((c : Thread nD τ), .reg barS)
abbrev sndCell (c : Dev nD) (ch : Ch) : GSem nD τ sig := ((c : Thread nD τ), .dma (sndS ch))
abbrev rcvCell (c : Dev nD) (ch : Ch) : GSem nD τ sig := ((c : Thread nD τ), .dma (rcvS ch))

/-- What a copy moves, in the semaphore's units: 2048 for the codes, 64 for the scales. -/
def Nof (b : Bool) : ℕ := bif b then 64 else 2048
theorem Nof_pos (b : Bool) : 0 < Nof b := by cases b <;> decide
theorem credit_slotQ (k : Fin 7) : (slotQ k).view.dmaCredit = Nof false := by
  refine View.dmaCredit_closed _ S256x256 rfl cc0_scratch2.idx rfl _ ?_
  decide
theorem credit_slotS (k : Fin 7) : (slotS k).view.dmaCredit = Nof true := by
  refine View.dmaCredit_closed _ S2x256 rfl cc0_scratch3.idx rfl _ ?_
  decide
theorem credit_q : (qM : Memref sig .tc .vmem S256x256 .i8).view.dmaCredit = Nof false := by
  refine View.dmaCredit_closed _ S256x256 rfl cc0_scratch0.idx rfl _ ?_
  decide
theorem credit_s : (sM : Memref sig .tc .vmem S2x256 .f32).view.dmaCredit = Nof true := by
  refine View.dmaCredit_closed _ S2x256 rfl cc0_scratch1.idx rfl _ ?_
  decide

/-- The scoped semaphores of the copies: send (`false`) and receive (`true`). -/
abbrev osem : Bool × Ch → SemLoc sig := fun p => .dma (bif p.1 then rcvS p.2 else sndS p.2)
/-- All the protocol's cells on one device: the barrier, and those. -/
abbrev csem : Option (Bool × Ch) → SemLoc sig := fun | none => .reg barS | some p => osem p
abbrev kcell (ck : Dev nD × Option (Bool × Ch)) : GSem nD τ sig := ((ck.1 : Thread nD τ), csem ck.2)

theorem sndS_inj : Function.Injective sndS := by decide
theorem rcvS_inj : Function.Injective rcvS := by decide
theorem sndS_ne_rcvS (a b : Ch) : sndS a ≠ rcvS b := by revert a b; decide

/-! ## Contents -/

/-- What the pipeline stages on device `c`: its tokens, the router's weights, its tokens' experts, its two experts'
    weights, the shared expert's weights. -/
def xStg (c : Dev nD) : (cc0_stg0_0 : Ref sig .tc).ty.Contents (Elt F) :=
  (win0_0.blk (0 : Fin 1)).view.read (Elt F) ((s₀ m ρ).mem ((c : Thread nD τ).loc main_arg0))
def rStg (c : Dev nD) : (cc0_stg1_0 : Ref sig .tc).ty.Contents (Elt F) :=
  (win0_1.blk (0 : Fin 1)).view.read (Elt F) ((s₀ m ρ).mem ((c : Thread nD τ).loc main_arg1))
def iStg (c : Dev nD) : (cc0_stg2_0 : Ref sig .tc).ty.Contents (Elt F) :=
  (win0_2.blk (0 : Fin 1)).view.read (Elt F) ((s₀ m ρ).mem ((c : Thread nD τ).loc main_arg2))
def wStg (c : Dev nD) : (cc0_stg3_0 : Ref sig .tc).ty.Contents (Elt F) :=
  (win0_3.blk (0 : Fin 1)).view.read (Elt F) ((s₀ m ρ).mem ((c : Thread nD τ).loc main_arg3))
def hStg (c : Dev nD) : (cc0_stg4_0 : Ref sig .tc).ty.Contents (Elt F) :=
  (win0_4.blk (0 : Fin 1)).view.read (Elt F) ((s₀ m ρ).mem ((c : Thread nD τ).loc main_arg4))

abbrev rW0 : Rect S2x128x256 := Rect.unit (s := S2x128x256) ![0, 0, 0] S1x128x256.size inb_S2x128x256_S1x128x256_0_0_0
abbrev rW1 : Rect S2x128x256 := Rect.unit (s := S2x128x256) ![1, 0, 0] S1x128x256.size inb_S2x128x256_S1x128x256_1_0_0
abbrev rQ0 : Rect S256x256 := Rect.unit (s := S256x256) ![0, 0] S128x256.size inb_S256x256_S128x256_0_0
abbrev rQ1 : Rect S256x256 := Rect.unit (s := S256x256) ![128, 0] S128x256.size inb_S256x256_S128x256_128_0
abbrev rS0 : Rect S2x256 := Rect.unit (s := S2x256) ![0, 0] S1x256.size inb_S2x256_S1x256_0_0
abbrev rS1 : Rect S2x256 := Rect.unit (s := S2x256) ![1, 0] S1x256.size inb_S2x256_S1x256_1_0

/-- Device `c`'s first and second expert, as the kernel loads them. -/
def w0 (c : Dev nD) : Vec F S1x128x256 .bf16 := wM.view.readAt (Elt F) rW0.toLoadRect (wStg m ρ c)
def w1 (c : Dev nD) : Vec F S1x128x256 .bf16 := wM.view.readAt (Elt F) rW1.toLoadRect (wStg m ρ c)

/-- The codes buffer after its two stores, over what it held before. -/
def codesOver (c : Dev nD) (f : (cc0_scratch0 : Ref sig .tc).ty.Contents (Elt F)) : (cc0_scratch0 : Ref sig .tc).ty.Contents (Elt F) :=
  (qM.access rQ1).write (Elt F) ((qM.access rQ0).write (Elt F) f (k0_pay3 (w0 m ρ c)) Finset.univ) (k0_pay7 (w1 m ρ c)) Finset.univ
def scalesOver (c : Dev nD) (f : (cc0_scratch1 : Ref sig .tc).ty.Contents (Elt F)) : (cc0_scratch1 : Ref sig .tc).ty.Contents (Elt F) :=
  (sM.access rS1).write (Elt F) ((sM.access rS0).write (Elt F) f (k0_pay4 (w0 m ρ c)) Finset.univ) (k0_pay8 (w1 m ρ c)) Finset.univ

/-- The codes and the scales device `c` sends. -/
def codes (c : Dev nD) : (cc0_scratch0 : Ref sig .tc).ty.Contents (Elt F) := codesOver m ρ c (m ((c : Thread nD τ).loc cc0_scratch0))
def scales (c : Dev nD) : (cc0_scratch1 : Ref sig .tc).ty.Contents (Elt F) := scalesOver m ρ c (m ((c : Thread nD τ).loc cc0_scratch1))

theorem acc_q0 (a : Fin 128) (b : Fin 256) : (qM.access rQ0).emb (ix2 a b) = ix2 (n0 := 256) ⟨a.val, by omega⟩ b := by
  show rQ0.emb (ix2 a b) = _
  funext d; apply Fin.ext
  match d with
  | ⟨0, _⟩ => show 0 + 1 * a.val = a.val; omega
  | ⟨1, _⟩ => show 0 + 1 * b.val = b.val; omega
theorem acc_q1 (a : Fin 128) (b : Fin 256) : (qM.access rQ1).emb (ix2 a b) = ix2 (n0 := 256) ⟨128 + a.val, by omega⟩ b := by
  show rQ1.emb (ix2 a b) = _
  funext d; apply Fin.ext
  match d with
  | ⟨0, _⟩ => show 128 + 1 * a.val = 128 + a.val; omega
  | ⟨1, _⟩ => show 0 + 1 * b.val = b.val; omega
theorem acc_s0 (b : Fin 256) : (sM.access rS0).emb (ix2 (0 : Fin 1) b) = ix2 (0 : Fin 2) b := by
  show rS0.emb (ix2 (0 : Fin 1) b) = _
  funext d; apply Fin.ext
  match d with
  | ⟨0, _⟩ => rfl
  | ⟨1, _⟩ => show 0 + 1 * b.val = b.val; omega
theorem acc_s1 (b : Fin 256) : (sM.access rS1).emb (ix2 (0 : Fin 1) b) = ix2 (1 : Fin 2) b := by
  show rS1.emb (ix2 (0 : Fin 1) b) = _
  funext d; apply Fin.ext
  match d with
  | ⟨0, _⟩ => rfl
  | ⟨1, _⟩ => show 0 + 1 * b.val = b.val; omega

theorem codesOver_lo (c : Dev nD) (f) (a : Fin 128) (b : Fin 256) :
    codesOver m ρ c f (ix2 (n0 := 256) ⟨a.val, by omega⟩ b) = k0_pay3 (w0 m ρ c) (ix2 a b) := by
  unfold codesOver
  rw [View.write_of_not_mem, ← acc_q0 a b, View.write_emb_of_mem _ _ (Finset.mem_univ _)]
  · rfl
  · intro h
    obtain ⟨x, -, hx⟩ := Finset.mem_map.mp h
    obtain ⟨p, q, rfl⟩ : ∃ (p : Fin 128) (q : Fin 256), x = ix2 p q := ⟨x 0, x 1, eq_ix2 x⟩
    rw [acc_q1] at hx
    have h0 : 128 + p.val = a.val := congrArg (fun i : S256x256.Idx => (i 0).val) hx
    omega
theorem codesOver_hi (c : Dev nD) (f) (a : Fin 128) (b : Fin 256) :
    codesOver m ρ c f (ix2 (n0 := 256) ⟨128 + a.val, by omega⟩ b) = k0_pay7 (w1 m ρ c) (ix2 a b) := by
  unfold codesOver
  rw [← acc_q1 a b, View.write_emb_of_mem _ _ (Finset.mem_univ _)]
  rfl
theorem scalesOver_lo (c : Dev nD) (f) (b : Fin 256) :
    scalesOver m ρ c f (ix2 (0 : Fin 2) b) = k0_pay4 (w0 m ρ c) (ix2 (0 : Fin 1) b) := by
  unfold scalesOver
  rw [View.write_of_not_mem, ← acc_s0 b, View.write_emb_of_mem _ _ (Finset.mem_univ _)]
  · rfl
  · intro h
    obtain ⟨x, -, hx⟩ := Finset.mem_map.mp h
    obtain ⟨p, q, rfl⟩ : ∃ (p : Fin 1) (q : Fin 256), x = ix2 p q := ⟨x 0, x 1, eq_ix2 x⟩
    obtain rfl : p = 0 := Subsingleton.elim _ _
    rw [acc_s1] at hx
    have h0 : (1 : Fin 2) = 0 := congrArg (fun i : S2x256.Idx => i 0) hx
    exact absurd h0 (by decide)
theorem scalesOver_hi (c : Dev nD) (f) (b : Fin 256) :
    scalesOver m ρ c f (ix2 (1 : Fin 2) b) = k0_pay8 (w1 m ρ c) (ix2 (0 : Fin 1) b) := by
  unfold scalesOver
  rw [← acc_s1 b, View.write_emb_of_mem _ _ (Finset.mem_univ _)]
  rfl

/-- A row of the codes buffer is a row of the first expert's or of the second's. -/
theorem row_cases (p : Fin 256) : (∃ a : Fin 128, p = ⟨a.val, by omega⟩) ∨ ∃ a : Fin 128, p = ⟨128 + a.val, by omega⟩ := by
  by_cases h : p.val < 128
  · exact .inl ⟨⟨p.val, h⟩, rfl⟩
  · exact .inr ⟨⟨p.val - 128, by omega⟩, Fin.ext (by show p.val = 128 + (p.val - 128); omega)⟩

/-- The two stores leave nothing of what the buffer held. -/
theorem codesOver_eq (c : Dev nD) (f) : codesOver m ρ c f = codes m ρ c := by
  funext i
  obtain ⟨p, q, rfl⟩ : ∃ (p : Fin 256) (q : Fin 256), i = ix2 p q := ⟨i 0, i 1, eq_ix2 i⟩
  rcases row_cases p with ⟨a, rfl⟩ | ⟨a, rfl⟩
  · exact (codesOver_lo m ρ c f a q).trans (codesOver_lo m ρ c _ a q).symm
  · exact (codesOver_hi m ρ c f a q).trans (codesOver_hi m ρ c _ a q).symm
theorem scalesOver_eq (c : Dev nD) (f) : scalesOver m ρ c f = scales m ρ c := by
  funext i
  obtain ⟨p, q, rfl⟩ : ∃ (p : Fin 2) (q : Fin 256), i = ix2 p q := ⟨i 0, i 1, eq_ix2 i⟩
  obtain rfl | rfl : p = 0 ∨ p = 1 := by revert p; decide
  · exact (scalesOver_lo m ρ c f q).trans (scalesOver_lo m ρ c _ q).symm
  · exact (scalesOver_hi m ρ c f q).trans (scalesOver_hi m ρ c _ q).symm

/-- What device `c`'s arriving buffers hold at the end: in slot `k` what the device `k + 1` places behind sent. -/
def landQ (c : Dev nD) : (cc0_scratch2 : Ref sig .tc).ty.Contents (Elt F) := fun i : S7x256x256.Idx => codes m ρ (bwd (i 0) c) (ix2 (i 1) (i 2))
def landS (c : Dev nD) : (cc0_scratch3 : Ref sig .tc).ty.Contents (Elt F) := fun i : S7x2x256.Idx => scales m ρ (bwd (i 0) c) (ix2 (i 1) (i 2))

/-- A copy into slot `k` from device `c` leaves there what `landQ` names. -/
theorem landed_Q (c : Dev nD) (k : Fin 7) (fd : (cc0_scratch2 : Ref sig .tc).ty.Contents (Elt F)) :
    ∀ i ∈ setQ k, (slotQ k).view.write (Elt F) fd (qM.view.read (Elt F) (codes m ρ c)) Finset.univ i = landQ m ρ (fwd k c) i := by
  intro i hi
  obtain ⟨x, -, rfl⟩ := Finset.mem_map.mp hi
  obtain ⟨p, q, rfl⟩ : ∃ (p : Fin 256) (q : Fin 256), x = ix2 p q := ⟨x 0, x 1, eq_ix2 x⟩
  rw [View.write_emb_of_mem _ _ (Finset.mem_univ _)]
  show codes m ρ c (ix2 p q) = _
  rw [slotQ_emb]
  show _ = codes m ρ (bwd k (fwd k c)) (ix2 p q)
  rw [bwd_fwd]
theorem landed_S (c : Dev nD) (k : Fin 7) (fd : (cc0_scratch3 : Ref sig .tc).ty.Contents (Elt F)) :
    ∀ i ∈ setS k, (slotS k).view.write (Elt F) fd (sM.view.read (Elt F) (scales m ρ c)) Finset.univ i = landS m ρ (fwd k c) i := by
  intro i hi
  obtain ⟨x, -, rfl⟩ := Finset.mem_map.mp hi
  obtain ⟨p, q, rfl⟩ : ∃ (p : Fin 2) (q : Fin 256), x = ix2 p q := ⟨x 0, x 1, eq_ix2 x⟩
  rw [View.write_emb_of_mem _ _ (Finset.mem_univ _)]
  show scales m ρ c (ix2 p q) = _
  rw [slotS_emb]
  show _ = scales m ρ (bwd k (fwd k c)) (ix2 p q)
  rw [bwd_fwd]

/-! ## The schedule -/

/-- Slot `k` of a device's arriving buffers, at some contents. -/
def slotQPts (c : Dev nD) (k : Fin 7) (f : (cc0_scratch2 : Ref sig .tc).ty.Contents (Elt F)) : sProp 𝕄 :=
  (slotQ k).view.loc (c : Thread nD τ) ↦[(slotQ k).view.set]{fullShare} f
def slotSPts (c : Dev nD) (k : Fin 7) (f : (cc0_scratch3 : Ref sig .tc).ty.Contents (Elt F)) : sProp 𝕄 :=
  (slotS k).view.loc (c : Thread nD τ) ↦[(slotS k).view.set]{fullShare} f
/-- A seventh of the buffer of codes (scales) to send, filled. -/
def qTok (c : Dev nD) (k : Fin 7) : sProp 𝕄 :=
  qM.view.loc (c : Thread nD τ) ↦[qM.view.set]{shareTok fullShare 7 k} codes m ρ c
def sTok (c : Dev nD) (k : Fin 7) : sProp 𝕄 :=
  sM.view.loc (c : Thread nD τ) ↦[sM.view.set]{shareTok fullShare 7 k} scales m ρ c

instance slotQPts_storable (c : Dev nD) (k f) : BI.Storable (upEmb : UEmb _ 𝕄) (slotQPts (F := F) c k f) := by unfold slotQPts; infer_instance
instance slotSPts_storable (c : Dev nD) (k f) : BI.Storable (upEmb : UEmb _ 𝕄) (slotSPts (F := F) c k f) := by unfold slotSPts; infer_instance
instance qTok_storable (c : Dev nD) (k) : BI.Storable (upEmb : UEmb _ 𝕄) (qTok (F := F) m ρ c k) := by unfold qTok; infer_instance
instance sTok_storable (c : Dev nD) (k) : BI.Storable (upEmb : UEmb _ 𝕄) (sTok (F := F) m ρ c k) := by unfold sTok; infer_instance

/-- A barrier duty of `c`, named by how far ahead its payer stands: that device's two landing slots for `c`'s copies. -/
def barPay (c : Dev nD) (k : Fin 7) : sProp 𝕄 := iprop((∃ f, slotQPts (fwd k c) k f) ∗ ∃ f, slotSPts (fwd k c) k f)
/-- What a receive cell hands its waiter: the slot, filled. -/
def rcvPay (c : Dev nD) (ch : Ch) : sProp 𝕄 := match ch with
  | (false, k) => slotQPts c k (landQ m ρ c)
  | (true, k) => slotSPts c k (landS m ρ c)
/-- What a send cell hands back: the share of the buffer the copy read. -/
def sndPay (c : Dev nD) (ch : Ch) : sProp 𝕄 := match ch with
  | (false, k) => qTok m ρ c k
  | (true, k) => sTok m ρ c k

/-- The copy a send or receive semaphore belongs to. -/
def chOf (q : DmaSem sig) : Ch := (decide (7 ≤ (q.val - 6) % 14), ⟨(q.val - 6) % 7, Nat.mod_lt _ (by decide)⟩)
theorem chOf_sndS (ch : Ch) : chOf (sndS ch) = ch := by revert ch; decide
theorem chOf_rcvS (ch : Ch) : chOf (rcvS ch) = ch := by revert ch; decide

def dutiesOf : SemLoc sig → Finset (Fin 7)
  | .reg s => if s = barS then Finset.univ else ∅
  | .dma q => if 6 ≤ q.val then {0} else ∅
def amountOf' : SemLoc sig → ℕ
  | .reg _ => 1
  | .dma q => Nof (chOf q).1
def payloadOf (c : Dev nD) (d : Fin 7) : SemLoc sig → sProp 𝕄
  | .reg _ => barPay c d
  | .dma q => if q.val < 20 then sndPay m ρ c (chOf q) else rcvPay m ρ c (chOf q)

/-- One round, round 0: a barrier cell has seven duties of one unit; a send or receive cell one duty of a copy's credit. -/
def sched : Rounds.Schedule (GSem nD τ sig) (Fin 7) 𝕄 where
  duties g r := if r = 0 ∧ g.1.2 = .tc then dutiesOf g.2 else ∅
  unitless _ := False
  amount g _ _ := amountOf' g.2
  payload g _ d := payloadOf m ρ g.1.1 d g.2
  amount_pos g _ _ _ := by
    rcases g with ⟨t, s | q⟩
    · exact Nat.one_pos
    · exact Nof_pos _

instance sched_payload_storable (g : GSem nD τ sig) (r : ℕ) (d : Fin 7) :
    BI.Storable (upEmb : UEmb _ 𝕄) ((sched (F := F) m ρ).payload g r d) := by
  show BI.Storable upEmb (payloadOf m ρ g.1.1 d g.2)
  rcases g with ⟨t, s | q⟩
  · show BI.Storable upEmb (barPay t.1 d)
    unfold barPay; infer_instance
  · show BI.Storable upEmb (if q.val < 20 then sndPay m ρ t.1 (chOf q) else rcvPay m ρ t.1 (chOf q))
    split
    · generalize chOf q = ch
      rcases ch with ⟨_ | _, k⟩
      · exact qTok_storable m ρ _ _
      · exact sTok_storable m ρ _ _
    · generalize chOf q = ch
      rcases ch with ⟨_ | _, k⟩
      · exact slotQPts_storable _ _ _
      · exact slotSPts_storable _ _ _

section Sched
variable (c : Dev nD)

theorem sndS_ge (ch : Ch) : 6 ≤ (sndS ch).val := Nat.le_add_right _ _
theorem rcvS_ge (ch : Ch) : 6 ≤ (rcvS ch).val := by show 6 ≤ 20 + _; omega
theorem sndS_lt (ch : Ch) : (sndS ch).val < 20 := by revert ch; decide
theorem rcvS_not_lt (ch : Ch) : ¬ (rcvS ch).val < 20 := by show ¬ 20 + _ < 20; omega

theorem duties_bar : (sched (F := F) m ρ).duties (barCell c) 0 = Finset.univ := by
  dsimp only [sched]; rw [if_pos ⟨rfl, rfl⟩]; show (if barS = barS then Finset.univ else ∅) = Finset.univ; exact if_pos rfl
theorem duties_snd (ch : Ch) : (sched (F := F) m ρ).duties (sndCell c ch) 0 = {0} := by
  dsimp only [sched]; rw [if_pos ⟨rfl, rfl⟩]; exact if_pos (sndS_ge ch)
theorem duties_rcv (ch : Ch) : (sched (F := F) m ρ).duties (rcvCell c ch) 0 = {0} := by
  dsimp only [sched]; rw [if_pos ⟨rfl, rfl⟩]; exact if_pos (rcvS_ge ch)
theorem duties_later (g : GSem nD τ sig) : ∀ r, 1 ≤ r → (sched (F := F) m ρ).duties g r = ∅ :=
  fun r hr => by dsimp only [sched]; rw [if_neg fun h => by omega]

theorem amount_bar (d : Fin 7) : (sched (F := F) m ρ).amount (barCell c) 0 d = 1 := rfl
theorem amount_snd (ch : Ch) (d : Fin 7) : (sched (F := F) m ρ).amount (sndCell c ch) 0 d = Nof ch.1 := by
  show Nof (chOf (sndS ch)).1 = _; rw [chOf_sndS]
theorem amount_rcv (ch : Ch) (d : Fin 7) : (sched (F := F) m ρ).amount (rcvCell c ch) 0 d = Nof ch.1 := by
  show Nof (chOf (rcvS ch)).1 = _; rw [chOf_rcvS]

theorem expect_bar : (sched (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_snd (ch : Ch) : (sched (F := F) m ρ).expect (sndCell c ch) 0 = Nof ch.1 := by
  unfold Schedule.expect Schedule.amountOf; rw [duties_snd, Finset.sum_singleton, amount_snd]
theorem expect_rcv (ch : Ch) : (sched (F := F) m ρ).expect (rcvCell c ch) 0 = Nof ch.1 := by
  unfold Schedule.expect Schedule.amountOf; rw [duties_rcv, Finset.sum_singleton, amount_rcv]

theorem payload_bar (d : Fin 7) : (sched (F := F) m ρ).payload (barCell c) 0 d = barPay c d := rfl
theorem payload_snd (ch : Ch) (d : Fin 7) : (sched (F := F) m ρ).payload (sndCell c ch) 0 d = sndPay m ρ c ch := by
  show (if (sndS ch).val < 20 then _ else _) = _
  rw [if_pos (sndS_lt ch), chOf_sndS]
theorem payload_rcv (ch : Ch) (d : Fin 7) : (sched (F := F) m ρ).payload (rcvCell c ch) 0 d = rcvPay m ρ c ch := by
  show (if (rcvS ch).val < 20 then _ else _) = _
  rw [if_neg (rcvS_not_lt ch), chOf_rcvS]

/-- What a cell's one round hands its waiter. -/
theorem rest_bar : bigSep ((sched (F := F) m ρ).duties (barCell c) 0 \ ∅) (fun d => (sched (F := F) m ρ).payload (barCell c) 0 d)
    = bigSep Finset.univ fun k : Fin 7 => barPay (F := F) c k := by
  rw [Finset.sdiff_empty, duties_bar]; rfl
theorem rest_snd (ch : Ch) : bigSep ((sched (F := F) m ρ).duties (sndCell c ch) 0 \ ∅) (fun d => (sched (F := F) m ρ).payload (sndCell c ch) 0 d) = sndPay m ρ c ch := by
  rw [Finset.sdiff_empty, duties_snd, bigSep_singleton, payload_snd]
theorem rest_rcv (ch : Ch) : bigSep ((sched (F := F) m ρ).duties (rcvCell c ch) 0 \ ∅) (fun d => (sched (F := F) m ρ).payload (rcvCell c ch) 0 d) = rcvPay m ρ c ch := by
  rw [Finset.sdiff_empty, duties_rcv, bigSep_singleton, payload_rcv]

end Sched

/-! ## What each device owes at launch; the levels -/

/-- The cell the `n`-th payment from the last goes to (the payments in program order: seven signals, then the fourteen
    copies, codes and scales by turns), and its amount. -/
def payCell (c : Dev nD) (n : ℕ) : GSem nD τ sig :=
  if n < 14 then rcvCell (fwd ⟨(13 - n) / 2 % 7, Nat.mod_lt _ (by decide)⟩ c) (n % 2 == 0, ⟨(13 - n) / 2 % 7, Nat.mod_lt _ (by decide)⟩)
  else barCell (fwd ⟨(20 - n) % 7, Nat.mod_lt _ (by decide)⟩ c)
def payAmt (n : ℕ) : ℕ := if n < 14 then Nof (n % 2 == 0) else 1

/-- What device `c` owes when `n` payments remain. -/
def due (c : Dev nD) : ℕ → CellTallies nD τ sig Unit
  | 0 => 0
  | n + 1 => due c n + tallyAt (payCell c n) () (payAmt n)

theorem due_pos {c : Dev nD} {n : ℕ} {g : GSem nD τ sig} {u : Unit} (h : 0 < due c n g u) : ∃ i < n, g = payCell c i := by
  induction n with
  | zero => exact absurd h (Nat.lt_irrefl 0)
  | succ n ih =>
    unfold due at h
    rw [Pi.add_apply, Finsupp.add_apply, tallyAt_apply] at h
    by_cases hg : g = payCell c n ∧ u = ()
    · exact ⟨n, Nat.lt_succ_self n, hg.1⟩
    · rw [if_neg hg, Nat.add_zero] at h
      obtain ⟨i, hi, e⟩ := ih h
      exact ⟨i, Nat.lt_succ_of_lt hi, e⟩

def L (g : GSem nD τ sig) : Finset Unit := if g.1.2 = .tc then {()} else ∅
/-- barrier cells at 1, receive cells at 2, everything else (staging, send) at 0. -/
def lvOf : SemLoc sig → ℕ
  | .reg _ => 1
  | .dma q => if q.val < 20 then 0 else 2
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem payCell_L (c : Dev nD) (n : ℕ) : L (payCell c n) = {()} := by
  unfold payCell; split <;> exact L_tc _ _
theorem lv_rcv (c : Dev nD) (ch : Ch) (u : Unit) : lv (rcvCell c ch) u = 2 := if_neg (rcvS_not_lt ch)
theorem lv_bar (c : Dev nD) (u : Unit) : lv (barCell c) u = 1 := rfl
theorem payCell_lv (c : Dev nD) (n : ℕ) (u : Unit) : 0 < lv (payCell c n) u := by
  unfold payCell; split
  · rw [lv_rcv]; decide
  · rw [lv_bar]; decide
theorem payCell_lv' (c : Dev nD) {n : ℕ} (h : n < 14) (u : Unit) : 1 < lv (payCell c n) u := by
  unfold payCell; rw [if_pos h, lv_rcv]; decide

/-- A device may wait on a staging semaphore whatever it owes; -/
theorem mayWait_stage (c : Dev nD) (q : DmaSem sig) (hq : q.val < 20) (n : ℕ) :
    (levAts L lv : sProp 𝕄) ⊢ MayWait (c : Thread nD τ) (.dma q) () (due c n) :=
  MayOwe.of_cut (L := L) (lev := lv) 0 (fun p hp => by rw [Finset.mem_singleton.mp hp, L_tc]; exact Finset.mem_singleton_self _)
    (fun g u hg => by obtain ⟨i, -, rfl⟩ := due_pos hg; rw [payCell_L]; exact Finset.mem_singleton_self _)
    (fun p hp => by rw [Finset.mem_singleton.mp hp]; exact le_of_eq (if_pos hq))
    (fun g u hg => by obtain ⟨i, -, rfl⟩ := due_pos hg; exact payCell_lv c i u)

/-- and on its barrier once it owes copies only. -/
theorem mayWait_bar (c : Dev nD) :
    (levAts L lv : sProp 𝕄) ⊢ MayWait (c : Thread nD τ) (.reg barS) () (due c 14) :=
  MayOwe.of_cut (L := L) (lev := lv) 1 (fun p hp => by rw [Finset.mem_singleton.mp hp, L_tc]; exact Finset.mem_singleton_self _)
    (fun g u hg => by obtain ⟨i, -, rfl⟩ := due_pos hg; rw [payCell_L]; exact Finset.mem_singleton_self _)
    (fun p hp => by rw [Finset.mem_singleton.mp hp]; exact le_of_eq (lv_bar c ()))
    (fun g u hg => by obtain ⟨i, hi, rfl⟩ := due_pos hg; exact payCell_lv' c hi u)

end Cert.KernelIdealProof
-- ==== Proof.Steps.lean ====
/-
  The kernel's synchronisation steps, one rule each: a signal to another device's barrier, the wait on the device's own
  barrier, a copy of the codes or of the scales to a slot of another device, the wait for an arriving copy, and the wait
  for a sent copy to have been read. Each is stated over the bundle of resources the step takes and gives back, for any
  place on the ring.
-/
module

public import proofs.«01_k».proof.Proof.Protocol

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.ValueIdx (ix2 ix3 eq_ix2 eq_ix3)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- The index of a device's cells: its barrier's, a send cell's, a receive cell's. -/
abbrev Cix : Type := Option (Bool × Ch)

/-- What every device knows of every cell: its invariant, and that round 0 of it is reached. -/
def records (K : Dev nD × Cix → ℕ) : sProp 𝕄 :=
  iprop((bigSep Finset.univ fun ck : Dev nD × Cix => cellInv ER (sched m ρ) (K ck) (kcell ck))
    ∗ bigSep Finset.univ fun ck : Dev nD × Cix => reached ER (kcell ck) 0)

instance records_persistent (K : Dev nD × Cix → ℕ) : BI.Persistent (records m ρ K) := by
  unfold records; infer_instance

theorem rec_inv (K : Dev nD × Cix → ℕ) (ck : Dev nD × Cix) : records m ρ K ⊢ cellInv ER (sched m ρ) (K ck) (kcell ck) := by
  unfold records
  exact BI.Entails.trans (BI.Entails.trans BI.sep_and BI.and_elimL) (bigSep_elim (Finset.mem_univ ck))
theorem rec_reached (K : Dev nD × Cix → ℕ) (ck : Dev nD × Cix) : records m ρ K ⊢ (reached ER (kcell ck) 0 : sProp 𝕄) := by
  unfold records
  exact BI.Entails.trans (BI.Entails.trans BI.sep_and BI.and_elimR) (bigSep_elim (Finset.mem_univ ck))

/-- What device `c` owes with `n` payments to go, whatever it has waited on. -/
def ow (c : Dev nD) (n : ℕ) : sProp 𝕄 := iprop(∃ W, owes (c : Thread nD τ) (due c n) W)

/-- For signal `s`: the duty of the barrier it raises, and the two slots the copies from there come to. -/
def sigRes (c : Dev nD) (s : Fin 7) : sProp 𝕄 :=
  iprop(dutyTok ER (barCell (fwd s c)) 0 (opp s) ∗ (∃ f, slotQPts (F := F) c (opp s) f) ∗ ∃ f, slotSPts (F := F) c (opp s) f)

/-- For copy `ch`: the duties of its send and its receive cell. -/
def copyRes (c : Dev nD) (ch : Ch) : sProp 𝕄 :=
  iprop(dutyTok ER (sndCell c ch) 0 0 ∗ dutyTok ER (rcvCell (fwd ch.2 c) ch) 0 0)
/-- Once it is under way: the send cell's credit. -/
def sentRes (c : Dev nD) (ch : Ch) : sProp 𝕄 := cred (tallyAt (sndCell c ch) () (Nof ch.1))
/-- For the arriving copy `ch`: the position at its cell, and the credit. -/
def rcvRes (c : Dev nD) (ch : Ch) : sProp 𝕄 :=
  iprop(atPos ER (rcvCell c ch) 0 ∅ 0 ∗ cred (tallyAt (rcvCell c ch) () (Nof ch.1)))
def barRes (c : Dev nD) : sProp 𝕄 := iprop(atPos ER (barCell c) 0 ∅ 0 ∗ cred (tallyAt (barCell c) () 7))

section Steps
variable (K : Dev nD × Cix → ℕ) (c : Dev nD) {α : Type} {Q : α → sProp (MT nD τ sig Unit (Elt F) ℕ UU ℕ)}
  {k : PUnit → Prog (TpuEff nD τ sig (Elt F) Λ₀ .tc) α}

theorem opp_pay (s : Fin 7) : barPay (F := F) (fwd s c) (opp s) = iprop((∃ f, slotQPts (F := F) c (opp s) f) ∗ ∃ f, slotSPts (F := F) c (opp s) f) := by
  unfold barPay; rw [show fwd (opp s) (fwd s c) = c from bwd_fwd s c]

/-- A signal to the barrier of the device `s + 1` places ahead hands it the two slots of its copies. -/
theorem step_signal (s : Fin 7) (n : ℕ) (hc : payCell c n = barCell (fwd s c)) (ha : payAmt n = 1) :
    records m ρ K
      ⊢ iprop(ow c (n + 1) -∗ sigRes c s -∗ (ow c n -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((fwd s c : Dev nD) : Thread nD τ) barS (1#32 : BitVec 32).toInt) k) Q) := by
  unfold ow sigRes
  iintro #Hrec ⟨%W, HO⟩ ⟨Ht, Hq, Hs⟩ Hk
  ihave #HI := (rec_inv m ρ K (fwd s c, none)) $$ Hrec
  ihave #HR := (rec_reached m ρ K (fwd s c, none)) $$ Hrec
  iapply (Rounds.wp_signal 𝒱₀ ER (sched m ρ) (c : Thread nD τ) none (dst := ((fwd s c : Dev nD) : Thread nD τ)) (κ := K (fwd s c, none))
      (d := opp s) (by rw [duties_bar]; exact Finset.mem_univ _) ((amount_bar m ρ (fwd s c) (opp s)).trans (by decide)) () (due c n)
      (by show due c n + tallyAt (payCell c n) () (payAmt n) = _; rw [hc, ha]; rfl))
    $$ [HO Ht Hq Hs]
  · isplitr; · iexact HI
    isplitl [HO]; · iexact HO
    isplitl [Ht]; · iexact Ht
    isplitl [Hq Hs]
    · rw [payload_bar, opp_pay]
      isplitl [Hq]; · iexact Hq
      iexact Hs
    · iexact HR
  iintro HO
  iapply Hk
  iexists W; iexact HO

/-- The wait on the own barrier: every other device's slots for this device's copies, and the barrier closed. -/
theorem step_bar :
    records m ρ K
      ⊢ iprop(levAts L lv -∗ ow c 14 -∗ barRes c -∗ (ow c 14 ∗ semVal (barCell c) 0 ∗ (bigSep Finset.univ fun k : Fin 7 => barPay (F := F) c k)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32 : BitVec 32).toInt) k) Q) := by
  unfold ow barRes
  iintro #Hrec #Hlev ⟨%W, HO⟩ ⟨Hat, Hc⟩ Hk
  ihave #HI := (rec_inv m ρ K (c, none)) $$ Hrec
  iapply (Rounds.wp_wait_rest_token 𝒱₀ ER (sched m ρ) (c : Thread nD τ) none (κ := K (c, none))
      (wpE_semWait_eq 𝒱₀ (c : Thread nD τ) none Set.univ) (Set.mem_univ _) () (O := due c 14) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (sched m ρ) (Set.mem_univ (K (c, none))) (fun h => h) (R := 0 + 1) (duties_later m ρ (barCell c))) $$ [Hat] with Hz
  · isplitr; · iexact HI
    iexact Hat
  iapply Hk
  isplitl [HO]; · iexists _; iexact HO
  isplitl [Hz]; · iexact Hz
  iexact Hp

/-- A copy of the codes to slot `j` of the device `j + 1` places ahead. -/
theorem step_sendQ (j : Fin 7) (d : Dev nD) (hd : d = fwd j c) (sS sR : DmaSem sig) (hS : sS = sndS (false, j)) (hR : sR = rcvS (false, j))
    (n : ℕ) (hc : payCell c n = rcvCell (fwd j c) (false, j)) (ha : payAmt n = Nof false)
    {hsc : (slotQ j : Memref sig (Dev.tc d : Thread nD τ).2.kind .vmem S256x256 .i8).view.ref.isScScratch = false}
    {hsrc : (qM : Memref sig .tc .vmem S256x256 .i8).view.WordExact} {hdst : (slotQ j).view.WordExact}
    {hsem : DmaTarget.Typed .vmem (.dma sR) (.remote (Dev.tc d : Thread nD τ) (slotQ j) (.dma sS) hsc)} :
    records m ρ K
      ⊢ iprop(ow c (n + 1) -∗ copyRes c (false, j) -∗ qTok m ρ c j -∗ (∃ f, slotQPts (F := F) (fwd j c) j f) -∗ (ow c n ∗ sentRes (F := F) c (false, j) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma qM (.remote (Dev.tc d : Thread nD τ) (slotQ j) (.dma sS) hsc) (.dma sR) hsrc hdst hsem) k) Q) := by
  subst hd hS hR
  unfold ow copyRes sentRes
  iintro #Hrec ⟨%W, HO⟩ ⟨Hts, Htr⟩ Hq ⟨%fd, Hd⟩ Hk
  ihave #HIs := (rec_inv m ρ K (c, some (false, (false, j)))) $$ Hrec
  ihave #HRs := (rec_reached m ρ K (c, some (false, (false, j)))) $$ Hrec
  ihave #HIr := (rec_inv m ρ K (fwd j c, some (true, (false, j)))) $$ Hrec
  ihave #HRr := (rec_reached m ρ K (fwd j c, some (true, (false, j)))) $$ Hrec
  unfold qTok slotQPts
  iapply (Rounds.wp_send_pointsTo 𝒱₀ ER (sched m ρ) (c : Thread nD τ) none (κ₁ := K (c, some (false, (false, j)))) (κ₂ := K (fwd j c, some (true, (false, j))))
      (r₁ := 0) (r₂ := 0) (d₁ := 0) (d₂ := 0) (fd := fd)
      (by rw [duties_snd]; exact Finset.mem_singleton_self _) (by rw [duties_rcv]; exact Finset.mem_singleton_self _)
      () () (Nof false) ((View.amount_dma _ _).trans (credit_slotQ j)) (amount_snd m ρ c (false, j) 0) (amount_rcv m ρ (fwd j c) (false, j) 0) (due c n)
      (by show due c n + tallyAt (payCell c n) () (payAmt n) = _; rw [hc, ha]) (W := W)
      (by rw [payload_snd]; exact BI.Entails.refl _)
      (by rw [payload_rcv]
          show _ ⊢ slotQPts (fwd j c) j (landQ m ρ (fwd j c))
          unfold slotQPts
          exact Entails.of_eq (pointsTo_congr (landed_Q m ρ c j fd)))) $$ [HO Hts Htr Hq Hd]
  · isplitr; · iexact HIs
    isplitr; · iexact HIr
    isplitl [Hq]; · iexact Hq
    isplitl [Hd]; · iexact Hd
    isplitl [HO]; · iexact HO
    isplitl [Hts]; · iexact Hts
    isplitr; · iexact HRs
    isplitl [Htr]; · iexact Htr
    iexact HRr
  iintro ⟨Hc, HO⟩
  iapply Hk
  isplitl [HO]; · iexists _; iexact HO
  iexact Hc

/-- A copy of the scales to slot `j` of the device `j + 1` places ahead. -/
theorem step_sendS (j : Fin 7) (d : Dev nD) (hd : d = fwd j c) (sS sR : DmaSem sig) (hS : sS = sndS (true, j)) (hR : sR = rcvS (true, j))
    (n : ℕ) (hc : payCell c n = rcvCell (fwd j c) (true, j)) (ha : payAmt n = Nof true)
    {hsc : (slotS j : Memref sig (Dev.tc d : Thread nD τ).2.kind .vmem S2x256 .f32).view.ref.isScScratch = false}
    {hsrc : (sM : Memref sig .tc .vmem S2x256 .f32).view.WordExact} {hdst : (slotS j).view.WordExact}
    {hsem : DmaTarget.Typed .vmem (.dma sR) (.remote (Dev.tc d : Thread nD τ) (slotS j) (.dma sS) hsc)} :
    records m ρ K
      ⊢ iprop(ow c (n + 1) -∗ copyRes c (true, j) -∗ sTok m ρ c j -∗ (∃ f, slotSPts (F := F) (fwd j c) j f) -∗ (ow c n ∗ sentRes (F := F) c (true, j) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc d : Thread nD τ) (slotS j) (.dma sS) hsc) (.dma sR) hsrc hdst hsem) k) Q) := by
  subst hd hS hR
  unfold ow copyRes sentRes
  iintro #Hrec ⟨%W, HO⟩ ⟨Hts, Htr⟩ Hq ⟨%fd, Hd⟩ Hk
  ihave #HIs := (rec_inv m ρ K (c, some (false, (true, j)))) $$ Hrec
  ihave #HRs := (rec_reached m ρ K (c, some (false, (true, j)))) $$ Hrec
  ihave #HIr := (rec_inv m ρ K (fwd j c, some (true, (true, j)))) $$ Hrec
  ihave #HRr := (rec_reached m ρ K (fwd j c, some (true, (true, j)))) $$ Hrec
  unfold sTok slotSPts
  iapply (Rounds.wp_send_pointsTo 𝒱₀ ER (sched m ρ) (c : Thread nD τ) none (κ₁ := K (c, some (false, (true, j)))) (κ₂ := K (fwd j c, some (true, (true, j))))
      (r₁ := 0) (r₂ := 0) (d₁ := 0) (d₂ := 0) (fd := fd)
      (by rw [duties_snd]; exact Finset.mem_singleton_self _) (by rw [duties_rcv]; exact Finset.mem_singleton_self _)
      () () (Nof true) ((View.amount_dma _ _).trans (credit_slotS j)) (amount_snd m ρ c (true, j) 0) (amount_rcv m ρ (fwd j c) (true, j) 0) (due c n)
      (by show due c n + tallyAt (payCell c n) () (payAmt n) = _; rw [hc, ha]) (W := W)
      (by rw [payload_snd]; exact BI.Entails.refl _)
      (by rw [payload_rcv]
          show _ ⊢ slotSPts (fwd j c) j (landS m ρ (fwd j c))
          unfold slotSPts
          exact Entails.of_eq (pointsTo_congr (landed_S m ρ c j fd)))) $$ [HO Hts Htr Hq Hd]
  · isplitr; · iexact HIs
    isplitr; · iexact HIr
    isplitl [Hq]; · iexact Hq
    isplitl [Hd]; · iexact Hd
    isplitl [HO]; · iexact HO
    isplitl [Hts]; · iexact Hts
    isplitr; · iexact HRs
    isplitl [Htr]; · iexact Htr
    iexact HRr
  iintro ⟨Hc, HO⟩
  iapply Hk
  isplitl [HO]; · iexists _; iexact HO
  iexact Hc

/-- The wait for the arriving copy `ch`, whatever memrefs it names its credit by: the slot filled, the cell closed. -/
theorem step_rcv (ch : Ch) (sR : DmaSem sig) (hR : sR = rcvS ch) {s s' : Shape} {sp sp' : Space} {e e' : EltTy}
    {src : Memref sig .tc sp s e} {dst : Memref sig .tc sp' s' e'} {hsrc : src.view.WordExact} {hdst : dst.view.WordExact}
    (hN : dst.view.dmaCredit = Nof ch.1) :
    records m ρ K
      ⊢ iprop(ow c 0 -∗ rcvRes (F := F) c ch -∗ (ow c 0 ∗ semVal (rcvCell c ch) 0 ∗ rcvPay m ρ c ch -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) := by
  subst hR
  unfold ow rcvRes
  iintro #Hrec ⟨%W, HO⟩ ⟨Hat, Hc⟩ Hk
  ihave #HI := (rec_inv m ρ K (c, some (true, ch))) $$ Hrec
  iapply (Rounds.wp_wait_rest_token 𝒱₀ ER (sched m ρ) (c : Thread nD τ) none (κ := K (c, some (true, ch)))
      (wpE_waitDma2_eq 𝒱₀ (c : Thread nD τ) none Set.univ) (Set.mem_univ _) () (O := due c 0) (W := W) (R := 0) (m := 0) (T := ∅)
      (by rw [Nat.zero_add, expect_rcv]; exact hN)) $$ [Hc HO Hat]
  · isplitr; · iexact HI
    isplitl [Hc]; · rw [hN]; iexact Hc
    isplitl [HO]; · iexact HO
    isplitr; · rw [show due c 0 = 0 from rfl, MayWait_zero]; iempintro
    iexact Hat
  iintro ⟨HO, Hat, -, Hpay⟩
  ihave Hp := (Entails.of_eq (rest_rcv m ρ c ch)) $$ Hpay
  imod (Rounds.cell_close ER (sched m ρ) (Set.mem_univ (K (c, some (true, ch)))) (fun h => h) (R := 0 + 1) (duties_later m ρ (rcvCell c ch))) $$ [Hat] with Hz
  · isplitr; · iexact HI
    iexact Hat
  iapply Hk
  isplitl [HO]; · iexists _; iexact HO
  isplitl [Hz]; · iexact Hz
  iexact Hp

/-- The wait for the own copy `ch` to have been read: the share of its source back, the cell closed. -/
theorem step_snd (ch : Ch) (sS : DmaSem sig) (hS : sS = sndS ch) {s s' : Shape} {sp sp' : Space} {e e' : EltTy}
    {src : Memref sig .tc sp s e} {dst : Memref sig .tc sp' s' e'} {hsrc : src.view.WordExact} {hdst : dst.view.WordExact}
    (hN : dst.view.dmaCredit = Nof ch.1) :
    records m ρ K
      ⊢ iprop(ow c 0 -∗ atPos ER (sndCell c ch) 0 ∅ 0 -∗ sentRes (F := F) c ch -∗ (ow c 0 ∗ semVal (sndCell c ch) 0 ∗ sndPay m ρ c ch -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) := by
  subst hS
  unfold ow sentRes
  iintro #Hrec ⟨%W, HO⟩ Hat Hc Hk
  ihave #HI := (rec_inv m ρ K (c, some (false, ch))) $$ Hrec
  iapply (Rounds.wp_wait_rest_token 𝒱₀ ER (sched m ρ) (c : Thread nD τ) none (κ := K (c, some (false, ch)))
      (wpE_waitDma2_eq 𝒱₀ (c : Thread nD τ) none Set.univ) (Set.mem_univ _) () (O := due c 0) (W := W) (R := 0) (m := 0) (T := ∅)
      (by rw [Nat.zero_add, expect_snd]; exact hN)) $$ [Hc HO Hat]
  · isplitr; · iexact HI
    isplitl [Hc]; · rw [hN]; iexact Hc
    isplitl [HO]; · iexact HO
    isplitr; · rw [show due c 0 = 0 from rfl, MayWait_zero]; iempintro
    iexact Hat
  iintro ⟨HO, Hat, -, Hpay⟩
  ihave Hp := (Entails.of_eq (rest_snd m ρ c ch)) $$ Hpay
  imod (Rounds.cell_close ER (sched m ρ) (Set.mem_univ (K (c, some (false, ch)))) (fun h => h) (R := 0 + 1) (duties_later m ρ (sndCell c ch))) $$ [Hat] with Hz
  · isplitr; · iexact HI
    iexact Hat
  iapply Hk
  isplitl [HO]; · iexists _; iexact HO
  isplitl [Hz]; · iexact Hz
  iexact Hp

/-- The two kinds of arriving copies, and of sent ones. -/
theorem step_rcvQ (j : Fin 7) (sR : DmaSem sig) (hR : sR = rcvS (false, j)) {s s' : Shape} {sp sp' : Space} {e e' : EltTy}
    {src : Memref sig .tc sp s e} {dst : Memref sig .tc sp' s' e'} {hsrc : src.view.WordExact} {hdst : dst.view.WordExact}
    (hN : dst.view.dmaCredit = Nof false) :
    records m ρ K
      ⊢ iprop(ow c 0 -∗ rcvRes (F := F) c (false, j) -∗ (ow c 0 ∗ semVal (rcvCell c (false, j)) 0 ∗ slotQPts c j (landQ m ρ c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) :=
  step_rcv m ρ K c (false, j) sR hR hN
theorem step_sndQ (j : Fin 7) (sS : DmaSem sig) (hS : sS = sndS (false, j)) {s s' : Shape} {sp sp' : Space} {e e' : EltTy}
    {src : Memref sig .tc sp s e} {dst : Memref sig .tc sp' s' e'} {hsrc : src.view.WordExact} {hdst : dst.view.WordExact}
    (hN : dst.view.dmaCredit = Nof false) :
    records m ρ K
      ⊢ iprop(ow c 0 -∗ atPos ER (sndCell c (false, j)) 0 ∅ 0 -∗ sentRes (F := F) c (false, j) -∗ (ow c 0 ∗ semVal (sndCell c (false, j)) 0 ∗ qTok m ρ c j -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) :=
  step_snd m ρ K c (false, j) sS hS hN
theorem step_rcvS (j : Fin 7) (sR : DmaSem sig) (hR : sR = rcvS (true, j)) {s s' : Shape} {sp sp' : Space} {e e' : EltTy}
    {src : Memref sig .tc sp s e} {dst : Memref sig .tc sp' s' e'} {hsrc : src.view.WordExact} {hdst : dst.view.WordExact}
    (hN : dst.view.dmaCredit = Nof true) :
    records m ρ K
      ⊢ iprop(ow c 0 -∗ rcvRes (F := F) c (true, j) -∗ (ow c 0 ∗ semVal (rcvCell c (true, j)) 0 ∗ slotSPts c j (landS m ρ c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR src dst hsrc hdst) k) Q) :=
  step_rcv m ρ K c (true, j) sR hR hN
theorem step_sndS (j : Fin 7) (sS : DmaSem sig) (hS : sS = sndS (true, j)) {s s' : Shape} {sp sp' : Space} {e e' : EltTy}
    {src : Memref sig .tc sp s e} {dst : Memref sig .tc sp' s' e'} {hsrc : src.view.WordExact} {hdst : dst.view.WordExact}
    (hN : dst.view.dmaCredit = Nof true) :
    records m ρ K
      ⊢ iprop(ow c 0 -∗ atPos ER (sndCell c (true, j)) 0 ∅ 0 -∗ sentRes (F := F) c (true, j) -∗ (ow c 0 ∗ semVal (sndCell c (true, j)) 0 ∗ sTok m ρ c j -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS src dst hsrc hdst) k) Q) :=
  step_snd m ρ K c (true, j) sS hS hN

/-- A load of slot `j`, at whatever the buffer is said to hold. -/
def lQ (c : Dev nD) (j : Fin 7) : Vec F S1x256x256 .i8 := cqM.view.readAt (Elt F) (rectQ j).toLoadRect (landQ m ρ c)
def lS (c : Dev nD) (j : Fin 7) : Vec F S1x2x256 .f32 := csM.view.readAt (Elt F) (rectS j).toLoadRect (landS m ρ c)

theorem step_loadQ (j : Fin 7) {k : Vec F S1x256x256 .i8 → Prog (TpuEff nD τ sig (Elt F) Λ₀ .tc) α} {hl : cqM.view.LoadsAt (rectQ j).toLoadRect} :
    slotQPts c j (landQ m ρ c)
      ⊢ iprop((slotQPts c j (landQ m ρ c) -∗ wp frame (wpE (defs₀ (F := F)) 𝒱₀ (c : Thread nD τ) none) Set.univ (k (lQ m ρ c j)) Q)
          -∗ wp frame (wpE (defs₀ (F := F)) 𝒱₀ (c : Thread nD τ) none) Set.univ (.op (.load cqM (rectQ j).toLoadRect hl) k) Q) := by
  unfold slotQPts
  exact wp_load 𝒱₀ (c : Thread nD τ) none Set.univ (m := cqM) (S := setQ j) (by
    intro i hi
    obtain ⟨x, hx, rfl⟩ := Finset.mem_map.mp hi
    have h0 := (Rect.mem_set_unit (s := S7x256x256) (off := ![j.val, 0, 0]) (size := S1x256x256.size) (inb := inbQ j)).mp hx 0
    have h1 : j.val ≤ (x 0).val := h0.1
    have h2 : (x 0).val < j.val + 1 := h0.2
    exact (mem_slotQ j x).mpr (Fin.ext (by omega)))

theorem step_loadS (j : Fin 7) {k : Vec F S1x2x256 .f32 → Prog (TpuEff nD τ sig (Elt F) Λ₀ .tc) α} {hl : csM.view.LoadsAt (rectS j).toLoadRect} :
    slotSPts c j (landS m ρ c)
      ⊢ iprop((slotSPts c j (landS m ρ c) -∗ wp frame (wpE (defs₀ (F := F)) 𝒱₀ (c : Thread nD τ) none) Set.univ (k (lS m ρ c j)) Q)
          -∗ wp frame (wpE (defs₀ (F := F)) 𝒱₀ (c : Thread nD τ) none) Set.univ (.op (.load csM (rectS j).toLoadRect hl) k) Q) := by
  unfold slotSPts
  exact wp_load 𝒱₀ (c : Thread nD τ) none Set.univ (m := csM) (S := setS j) (by
    intro i hi
    obtain ⟨x, hx, rfl⟩ := Finset.mem_map.mp hi
    have h0 := (Rect.mem_set_unit (s := S7x2x256) (off := ![j.val, 0, 0]) (size := S1x2x256.size) (inb := inbS j)).mp hx 0
    have h1 : j.val ≤ (x 0).val := h0.1
    have h2 : (x 0).val < j.val + 1 := h0.2
    exact (mem_slotS j x).mpr (Fin.ext (by omega)))

end Steps

end Cert.KernelIdealProof
-- ==== Proof.Parts.lean ====
/-
  The kernel's body, part by part: what each part takes and gives back, and the values it computes, over any float
  interpretation. Parts 1 to 7 signal, quantise and send; parts 8 to 17 compute, receiving slot after slot; the rest waits
  for the sent copies to have been read.
-/
module

public import proofs.«01_k».proof.Proof.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

/-- Device `c` runs `p` and ends in `Q`. -/
abbrev wpc (c : Dev nD) {α : Type} (p : Prog (TpuEff nD τ sig (Elt F) Λ₀ .tc) α) (Q : α → sProp (MT nD τ sig Unit (Elt F) ℕ UU ℕ)) : sProp 𝕄 :=
  wp frame (wpE (defs₀ (F := F)) 𝒱₀ (c : Thread nD τ) none) Set.univ p Q

/-- A part of the body over the call's memrefs: the staged arguments, the staged result, the scratch buffers. -/
abbrev onArgs {β : Type 1}
    (p : (arg0 : Memref sig .tc .vmem S256x128 .bf16) → arg0.IsWhole → (arg1 : Memref sig .tc .vmem S128x16 .bf16) → arg1.IsWhole →
      (arg2 : Memref sig .tc .vmem S256x1 .i32) → arg2.IsWhole → (arg3 : Memref sig .tc .vmem S2x128x256 .bf16) → arg3.IsWhole →
      (arg4 : Memref sig .tc .vmem S128x256 .bf16) → arg4.IsWhole → (arg5 : Memref sig .tc .vmem S256x256 .f32) → arg5.IsWhole →
      (arg6 : Memref sig .tc .vmem S256x256 .i8) → arg6.IsWhole → (arg7 : Memref sig .tc .vmem S2x256 .f32) → arg7.IsWhole →
      (arg8 : Memref sig .tc .vmem S7x256x256 .i8) → arg8.IsWhole → (arg9 : Memref sig .tc .vmem S7x2x256 .f32) → arg9.IsWhole →
      DmaSems sig S14 → DmaSems sig S14 → β) : β :=
  p xM (Memref.isWhole_whole _) rM (Memref.isWhole_whole _) iM (Memref.isWhole_whole _) wM (Memref.isWhole_whole _) hM (Memref.isWhole_whole _)
    oM (Memref.isWhole_whole _) qM (Memref.isWhole_whole _) sM (Memref.isWhole_whole _) cqM (Memref.isWhole_whole _) csM (Memref.isWhole_whole _)
    cc0_scratch4 cc0_scratch5

variable (K : Dev nD × Cix → ℕ) (c : Dev nD)

/-- The device's place on the ring, as the kernel computes it. -/
abbrev place : BitVec 32 := Scalar.remsi (Scalar.divsi (Dev.word c) 1#32) 8#32

/-- A whole buffer of device `c`, held at `f`. -/
abbrev own (b : Ref sig .tc) (f : b.ty.Contents (Elt F)) : sProp 𝕄 := (c : Thread nD τ).loc b ↦{fullShare} f

abbrev rX : Rect S256x128 := Rect.unit (s := S256x128) ![0, 0] S256x128.size inb_S256x128_S256x128_0_0
abbrev rR : Rect S128x16 := Rect.unit (s := S128x16) ![0, 0] S128x16.size inb_S128x16_S128x16_0_0
abbrev rI : Rect S256x1 := Rect.unit (s := S256x1) ![0, 0] S256x1.size inb_S256x1_S256x1_0_0
abbrev rH : Rect S128x256 := Rect.unit (s := S128x256) ![0, 0] S128x256.size inb_S128x256_S128x256_0_0
abbrev rW : Rect S2x128x256 := Rect.unit (s := S2x128x256) ![0, 0, 0] S2x128x256.size inb_S2x128x256_S2x128x256_0_0_0
abbrev rO : Rect S256x256 := Rect.unit (s := S256x256) ![0, 0] S256x256.size inb_S256x256_S256x256_0_0

/-- The staged arguments, loaded whole. -/
abbrev xL : Vec F S256x128 .bf16 := xM.view.readAt (Elt F) rX.toLoadRect (xStg m ρ c)
abbrev rL : Vec F S128x16 .bf16 := rM.view.readAt (Elt F) rR.toLoadRect (rStg m ρ c)
abbrev iL : Vec F S256x1 .i32 := iM.view.readAt (Elt F) rI.toLoadRect (iStg m ρ c)
abbrev hL : Vec F S128x256 .bf16 := hM.view.readAt (Elt F) rH.toLoadRect (hStg m ρ c)
abbrev wL : Vec F S2x128x256 .bf16 := wM.view.readAt (Elt F) rW.toLoadRect (wStg m ρ c)

section Parts1
variable {Q : (Σ' (d0 : Dev nD) (v2 : BitVec 32) (v3 : Sems sig S_) (v24 : BitVec 32), BitVec 32) → sProp (MT nD τ sig Unit (Elt F) ℕ UU ℕ)}

theorem part1_run :
    records m ρ K ⊢ iprop(ow c 21 -∗ sigRes c 0 -∗ sigRes c 1 -∗ sigRes c 2 -∗ sigRes c 3 -∗ sigRes c 4
      -∗ (ow c 16 -∗ Q ⟨c, place c, SemArray.scalar (sig.barrier 0 rfl), Scalar.addi (place c) 6#32, 8#32⟩)
      -∗ wpc c (onArgs (k0_part1 (F := F))) Q) := by
  rw [k0_part1_eq_skeleton]
  unfold wpc onArgs k0_part1_skel
  simp only [semSignalWord, semWaitWord, Prog.lift, Prog.bind_op, Prog.bind_ret, Prog.pure_eq_ret, wp_deviceId, dev1_eq, dev2_eq, dev3_eq, dev4_eq, dev5_eq]
  iintro #Hr HO H0 H1 H2 H3 H4 Hk
  iapply (step_signal m ρ K c 0 20 rfl rfl) $$ Hr HO H0
  iintro HO
  iapply (step_signal m ρ K c 1 19 rfl rfl) $$ Hr HO H1
  iintro HO
  iapply (step_signal m ρ K c 2 18 rfl rfl) $$ Hr HO H2
  iintro HO
  iapply (step_signal m ρ K c 3 17 rfl rfl) $$ Hr HO H3
  iintro HO
  iapply (step_signal m ρ K c 4 16 rfl rfl) $$ Hr HO H4
  iintro HO
  rw [wp_ret]
  imodintro
  iapply Hk $$ HO

end Parts1

/-- The last two signals, the barrier, and the first expert's codes and scale. -/
theorem part2_run {v2 v24 c8 : BitVec 32} (fq : (cc0_scratch0 : Ref sig .tc).ty.Contents (Elt F)) (fs : (cc0_scratch1 : Ref sig .tc).ty.Contents (Elt F))
    {Q : PUnit → sProp (MT nD τ sig Unit (Elt F) ℕ UU ℕ)} :
    records m ρ K ⊢ iprop(levAts L lv -∗ ow c 16 -∗ sigRes c 5 -∗ sigRes c 6 -∗ barRes c -∗ own c cc0_stg3_0 (wStg m ρ c) -∗ own c cc0_scratch0 fq -∗ own c cc0_scratch1 fs -∗ (ow c 14 ∗ semVal (barCell c) 0 ∗ (bigSep Finset.univ fun k : Fin 7 => barPay (F := F) c k) ∗ own c cc0_stg3_0 (wStg m ρ c) ∗ own c cc0_scratch0 ((qM.access rQ0).write (Elt F) fq (k0_pay3 (w0 m ρ c)) Finset.univ) ∗ own c cc0_scratch1 ((sM.access rS0).write (Elt F) fs (k0_pay4 (w0 m ρ c)) Finset.univ) -∗ Q ⟨⟩)
      -∗ wpc c (onArgs (k0_part2 (F := F)) c v2 (SemArray.scalar (sig.barrier 0 rfl)) v24 c8) Q) := by
  rw [k0_part2_eq_skeleton]
  unfold wpc onArgs k0_part2_skel
  simp only [semSignalWord, semWaitWord, Prog.lift, Prog.bind_op, Prog.bind_ret, Prog.pure_eq_ret, dev6_eq, dev7_eq]
  iintro #Hr #Hlev HO H5 H6 Hb Hw Hq Hs Hk
  iapply (step_signal m ρ K c 5 15 rfl rfl) $$ Hr HO H5
  iintro HO
  iapply (step_signal m ρ K c 6 14 rfl rfl) $$ Hr HO H6
  iintro HO
  iapply (step_bar m ρ K c) $$ Hr Hlev HO Hb
  iintro ⟨HO, Hv, Hp⟩
  iapply (wp_load 𝒱₀ (c : Thread nD τ) none Set.univ (m := wM) (Finset.subset_univ _)) $$ Hw
  iintro Hw
  iapply (wp_load 𝒱₀ (c : Thread nD τ) none Set.univ (m := qM) (Finset.subset_univ _)) $$ Hq
  iintro Hq
  iapply (wp_store 𝒱₀ (c : Thread nD τ) none Set.univ (m := qM) (r := rQ0) (Mk := Finset.univ) (Finset.subset_univ _)) $$ Hq
  iintro Hq
  iapply (wp_load 𝒱₀ (c : Thread nD τ) none Set.univ (m := sM) (Finset.subset_univ _)) $$ Hs
  iintro Hs
  iapply (wp_store 𝒱₀ (c : Thread nD τ) none Set.univ (m := sM) (r := rS0) (Mk := Finset.univ) (Finset.subset_univ _)) $$ Hs
  iintro Hs
  rw [wp_ret]
  imodintro
  iapply Hk
  isplitl [HO]
  · iexact HO
  isplitl [Hv]
  · iexact Hv
  isplitl [Hp]
  · iexact Hp
  isplitl [Hw]
  · iexact Hw
  isplitl [Hq]
  · iexact Hq
  iexact Hs

theorem zeros2 : (![0, 0] : Fin 2 → ℕ) = fun _ => 0 := by funext i; fin_cases i <;> rfl
theorem storeO (fo : (cc0_stg5_0 : Ref sig .tc).ty.Contents (Elt F)) (w : Vec F S256x256 .f32) :
    (oM.access rO).write (Elt F) fo w Finset.univ = w :=
  Memref.write_access_unit_zero_univ (Elt F) cc0_stg5_0 zeros2 _ fo w

/-- What stays at home of the two buffers while seven copies read them. -/
def qRest : sProp 𝕄 := (qM.view.loc (c : Thread nD τ) ↦[qM.view.set]{shareDrop fullShare 7} codes m ρ c)
def sRest : sProp 𝕄 := (sM.view.loc (c : Thread nD τ) ↦[sM.view.set]{shareDrop fullShare 7} scales m ρ c)

theorem fin7_sep (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide) Φ]
  simp only [bigSepL_cons_cons, bigSepL_singleton]
  rfl

theorem q_share : own c cc0_scratch0 (codes m ρ c) ⊢ iprop(qRest m ρ c ∗ qTok m ρ c 0 ∗ qTok m ρ c 1 ∗ qTok m ρ c 2 ∗ qTok m ρ c 3 ∗ qTok m ρ c 4 ∗ qTok m ρ c 5 ∗ qTok m ρ c 6) := by
  refine BI.Entails.trans (Transfers.pointsTo_toks_split fullShare 7) ?_
  rw [fin7_sep]
  unfold qRest qTok
  rw [show qM.view.set = Finset.univ from View.set_whole _]
  exact BI.Entails.refl _
theorem s_share : own c cc0_scratch1 (scales m ρ c) ⊢ iprop(sRest m ρ c ∗ sTok m ρ c 0 ∗ sTok m ρ c 1 ∗ sTok m ρ c 2 ∗ sTok m ρ c 3 ∗ sTok m ρ c 4 ∗ sTok m ρ c 5 ∗ sTok m ρ c 6) := by
  refine BI.Entails.trans (Transfers.pointsTo_toks_split fullShare 7) ?_
  rw [fin7_sep]
  unfold sRest sTok
  rw [show sM.view.set = Finset.univ from View.set_whole _]
  exact BI.Entails.refl _
theorem q_unshare : iprop(qRest m ρ c ∗ qTok m ρ c 0 ∗ qTok m ρ c 1 ∗ qTok m ρ c 2 ∗ qTok m ρ c 3 ∗ qTok m ρ c 4 ∗ qTok m ρ c 5 ∗ qTok m ρ c 6) ⊢ own c cc0_scratch0 (codes m ρ c) := by
  refine BI.Entails.trans ?_ (Transfers.pointsTo_toks_join fullShare 7)
  rw [fin7_sep]
  unfold qRest qTok
  rw [show qM.view.set = Finset.univ from View.set_whole _]
  exact BI.Entails.refl _
theorem s_unshare : iprop(sRest m ρ c ∗ sTok m ρ c 0 ∗ sTok m ρ c 1 ∗ sTok m ρ c 2 ∗ sTok m ρ c 3 ∗ sTok m ρ c 4 ∗ sTok m ρ c 5 ∗ sTok m ρ c 6) ⊢ own c cc0_scratch1 (scales m ρ c) := by
  refine BI.Entails.trans ?_ (Transfers.pointsTo_toks_join fullShare 7)
  rw [fin7_sep]
  unfold sRest sTok
  rw [show sM.view.set = Finset.univ from View.set_whole _]
  exact BI.Entails.refl _

/-- The second expert's codes and scale; the two buffers are shared out; the first copy. -/
theorem part3_run {v2 : BitVec 32} (fq : (cc0_scratch0 : Ref sig .tc).ty.Contents (Elt F)) (fs : (cc0_scratch1 : Ref sig .tc).ty.Contents (Elt F))
    {Q : BitVec 32 → sProp (MT nD τ sig Unit (Elt F) ℕ UU ℕ)} :
    records m ρ K ⊢ iprop(ow c 14 -∗ own c cc0_stg3_0 (wStg m ρ c) -∗ own c cc0_scratch0 ((qM.access rQ0).write (Elt F) fq (k0_pay3 (w0 m ρ c)) Finset.univ) -∗ own c cc0_scratch1 ((sM.access rS0).write (Elt F) fs (k0_pay4 (w0 m ρ c)) Finset.univ) -∗ copyRes c (false, 0) -∗ (∃ f, slotQPts (F := F) (fwd 0 c) 0 f) -∗ (ow c 13 ∗ own c cc0_stg3_0 (wStg m ρ c) ∗ sentRes (F := F) c (false, 0) ∗ qRest m ρ c ∗ qTok m ρ c 1 ∗ qTok m ρ c 2 ∗ qTok m ρ c 3 ∗ qTok m ρ c 4 ∗ qTok m ρ c 5 ∗ qTok m ρ c 6 ∗ sRest m ρ c ∗ sTok m ρ c 0 ∗ sTok m ρ c 1 ∗ sTok m ρ c 2 ∗ sTok m ρ c 3 ∗ sTok m ρ c 4 ∗ sTok m ρ c 5 ∗ sTok m ρ c 6 -∗ Q (Scalar.remsi (Scalar.addi v2 1#32) 8#32))
      -∗ wpc c (onArgs (k0_part3 (F := F)) c v2) Q) := by
  rw [k0_part3_eq_skeleton]
  unfold wpc onArgs k0_part3_skel
  simp only [semSignalWord, semWaitWord, Prog.lift, Prog.bind_op, Prog.bind_ret, Prog.pure_eq_ret]
  iintro #Hr HO Hw Hq Hs Ca0 Da0 Hk
  iapply (wp_load 𝒱₀ (c : Thread nD τ) none Set.univ (m := wM) (Finset.subset_univ _)) $$ Hw
  iintro Hw
  iapply (wp_load 𝒱₀ (c : Thread nD τ) none Set.univ (m := qM) (Finset.subset_univ _)) $$ Hq
  iintro Hq
  iapply (wp_store 𝒱₀ (c : Thread nD τ) none Set.univ (m := qM) (r := rQ1) (Mk := Finset.univ) (Finset.subset_univ _)) $$ Hq
  iintro Hq
  iapply (wp_load 𝒱₀ (c : Thread nD τ) none Set.univ (m := sM) (Finset.subset_univ _)) $$ Hs
  iintro Hs
  iapply (wp_store 𝒱₀ (c : Thread nD τ) none Set.univ (m := sM) (r := rS1) (Mk := Finset.univ) (Finset.subset_univ _)) $$ Hs
  iintro Hs
  ihave Hq := (q_share m ρ c) $$ [Hq]
  · rw [← codesOver_eq m ρ c fq]; iexact Hq
  ihave Hs := (s_share m ρ c) $$ [Hs]
  · rw [← scalesOver_eq m ρ c fs]; iexact Hs
  icases Hq with ⟨HqR, Hq0, Hq1, Hq2, Hq3, Hq4, Hq5, Hq6⟩
  icases Hs with ⟨HsR, Hs0, Hs1, Hs2, Hs3, Hs4, Hs5, Hs6⟩
  iapply (step_sendQ m ρ K c 0 _ (dev8_eq c) _ _ (by decide) (by decide) 13 rfl rfl) $$ Hr HO Ca0 Hq0 Da0
  iintro ⟨HO, Ea0⟩
  rw [wp_ret]
  imodintro
  iapply Hk
  isplitl [HO]
  · iexact HO
  isplitl [Hw]
  · iexact Hw
  isplitl [Ea0]
  · iexact Ea0
  isplitl [HqR]
  · iexact HqR
  isplitl [Hq1]
  · iexact Hq1
  isplitl [Hq2]
  · iexact Hq2
  isplitl [Hq3]
  · iexact Hq3
  isplitl [Hq4]
  · iexact Hq4
  isplitl [Hq5]
  · iexact Hq5
  isplitl [Hq6]
  · iexact Hq6
  isplitl [HsR]
  · iexact HsR
  isplitl [Hs0]
  · iexact Hs0
  isplitl [Hs1]
  · iexact Hs1
  isplitl [Hs2]
  · iexact Hs2
  isplitl [Hs3]
  · iexact Hs3
  isplitl [Hs4]
  · iexact Hs4
  isplitl [Hs5]
  · iexact Hs5
  iexact Hs6

/-- Three copies. -/
theorem part4_run {v2 v83 : BitVec 32} {Q : (Σ' (v119 : BitVec 32) (v120 : BitVec 32), BitVec 32) → sProp (MT nD τ sig Unit (Elt F) ℕ UU ℕ)} :
    records m ρ K ⊢ iprop(ow c 13 -∗ copyRes c (true, 0) -∗ sTok m ρ c 0 -∗ (∃ f, slotSPts (F := F) (fwd 0 c) 0 f) -∗ copyRes c (false, 1) -∗ qTok m ρ c 1 -∗ (∃ f, slotQPts (F := F) (fwd 1 c) 1 f) -∗ copyRes c (true, 1) -∗ sTok m ρ c 1 -∗ (∃ f, slotSPts (F := F) (fwd 1 c) 1 f) -∗ (ow c 10 ∗ sentRes (F := F) c (true, 0) ∗ sentRes (F := F) c (false, 1) ∗ sentRes (F := F) c (true, 1) -∗ Q ⟨Scalar.remsi (Scalar.addi v2 3#32) 8#32, Scalar.muli (Scalar.remsi (Scalar.addi v2 3#32) 8#32) 1#32, 0#32⟩)
      -∗ wpc c (onArgs (k0_part4 (F := F)) c v2 v83) Q) := by
  rw [k0_part4_eq_skeleton]
  unfold wpc onArgs k0_part4_skel
  simp only [semSignalWord, semWaitWord, Prog.lift, Prog.bind_op, Prog.bind_ret, Prog.pure_eq_ret]
  iintro #Hr HO Cb0 Hs0 Db0 Ca1 Hq1 Da1 Cb1 Hs1 Db1 Hk
  iapply (step_sendS m ρ K c 0 _ (dev9_eq c) _ _ (by decide) (by decide) 12 rfl rfl) $$ Hr HO Cb0 Hs0 Db0
  iintro ⟨HO, Eb0⟩
  iapply (step_sendQ m ρ K c 1 _ (dev10_eq c) _ _ (by decide) (by decide) 11 rfl rfl) $$ Hr HO Ca1 Hq1 Da1
  iintro ⟨HO, Ea1⟩
  iapply (step_sendS m ρ K c 1 _ (dev11_eq c) _ _ (by decide) (by decide) 10 rfl rfl) $$ Hr HO Cb1 Hs1 Db1
  iintro ⟨HO, Eb1⟩
  rw [wp_ret]
  imodintro
  iapply Hk
  isplitl [HO]
  · iexact HO
  isplitl [Eb0]
  · iexact Eb0
  isplitl [Ea1]
  · iexact Ea1
  iexact Eb1

/-- Three copies. -/
theorem part5_run {v2 v119 v120 c0 : BitVec 32} {Q : PUnit → sProp (MT nD τ sig Unit (Elt F) ℕ UU ℕ)} :
    records m ρ K ⊢ iprop(ow c 10 -∗ copyRes c (false, 2) -∗ qTok m ρ c 2 -∗ (∃ f, slotQPts (F := F) (fwd 2 c) 2 f) -∗ copyRes c (true, 2) -∗ sTok m ρ c 2 -∗ (∃ f, slotSPts (F := F) (fwd 2 c) 2 f) -∗ copyRes c (false, 3) -∗ qTok m ρ c 3 -∗ (∃ f, slotQPts (F := F) (fwd 3 c) 3 f) -∗ (ow c 7 ∗ sentRes (F := F) c (false, 2) ∗ sentRes (F := F) c (true, 2) ∗ sentRes (F := F) c (false, 3) -∗ Q ⟨⟩)
      -∗ wpc c (onArgs (k0_part5 (F := F)) c v2 v119 v120 c0) Q) := by
  rw [k0_part5_eq_skeleton]
  unfold wpc onArgs k0_part5_skel
  simp only [semSignalWord, semWaitWord, Prog.lift, Prog.bind_op, Prog.bind_ret, Prog.pure_eq_ret]
  iintro #Hr HO Ca2 Hq2 Da2 Cb2 Hs2 Db2 Ca3 Hq3 Da3 Hk
  iapply (step_sendQ m ρ K c 2 _ (dev12_eq c) _ _ (by decide) (by decide) 9 rfl rfl) $$ Hr HO Ca2 Hq2 Da2
  iintro ⟨HO, Ea2⟩
  iapply (step_sendS m ρ K c 2 _ (dev13_eq c) _ _ (by decide) (by decide) 8 rfl rfl) $$ Hr HO Cb2 Hs2 Db2
  iintro ⟨HO, Eb2⟩
  iapply (step_sendQ m ρ K c 3 _ (dev14_eq c) _ _ (by decide) (by decide) 7 rfl rfl) $$ Hr HO Ca3 Hq3 Da3
  iintro ⟨HO, Ea3⟩
  rw [wp_ret]
  imodintro
  iapply Hk
  isplitl [HO]
  · iexact HO
  isplitl [Ea2]
  · iexact Ea2
  isplitl [Eb2]
  · iexact Eb2
  iexact Ea3

/-- Four copies. -/
theorem part6_run {v2 : BitVec 32} {Q : BitVec 32 → sProp (MT nD τ sig Unit (Elt F) ℕ UU ℕ)} :
    records m ρ K ⊢ iprop(ow c 7 -∗ copyRes c (true, 3) -∗ sTok m ρ c 3 -∗ (∃ f, slotSPts (F := F) (fwd 3 c) 3 f) -∗ copyRes c (false, 4) -∗ qTok m ρ c 4 -∗ (∃ f, slotQPts (F := F) (fwd 4 c) 4 f) -∗ copyRes c (true, 4) -∗ sTok m ρ c 4 -∗ (∃ f, slotSPts (F := F) (fwd 4 c) 4 f) -∗ copyRes c (false, 5) -∗ qTok m ρ c 5 -∗ (∃ f, slotQPts (F := F) (fwd 5 c) 5 f) -∗ (ow c 3 ∗ sentRes (F := F) c (true, 3) ∗ sentRes (F := F) c (false, 4) ∗ sentRes (F := F) c (true, 4) ∗ sentRes (F := F) c (false, 5) -∗ Q (Scalar.remsi (Scalar.addi v2 6#32) 8#32))
      -∗ wpc c (onArgs (k0_part6 (F := F)) c v2) Q) := by
  rw [k0_part6_eq_skeleton]
  unfold wpc onArgs k0_part6_skel
  simp only [semSignalWord, semWaitWord, Prog.lift, Prog.bind_op, Prog.bind_ret, Prog.pure_eq_ret]
  iintro #Hr HO Cb3 Hs3 Db3 Ca4 Hq4 Da4 Cb4 Hs4 Db4 Ca5 Hq5 Da5 Hk
  iapply (step_sendS m ρ K c 3 _ (dev15_eq c) _ _ (by decide) (by decide) 6 rfl rfl) $$ Hr HO Cb3 Hs3 Db3
  iintro ⟨HO, Eb3⟩
  iapply (step_sendQ m ρ K c 4 _ (dev16_eq c) _ _ (by decide) (by decide) 5 rfl rfl) $$ Hr HO Ca4 Hq4 Da4
  iintro ⟨HO, Ea4⟩
  iapply (step_sendS m ρ K c 4 _ (dev17_eq c) _ _ (by decide) (by decide) 4 rfl rfl) $$ Hr HO Cb4 Hs4 Db4
  iintro ⟨HO, Eb4⟩
  iapply (step_sendQ m ρ K c 5 _ (dev18_eq c) _ _ (by decide) (by decide) 3 rfl rfl) $$ Hr HO Ca5 Hq5 Da5
  iintro ⟨HO, Ea5⟩
  rw [wp_ret]
  imodintro
  iapply Hk
  isplitl [HO]
  · iexact HO
  isplitl [Eb3]
  · iexact Eb3
  isplitl [Ea4]
  · iexact Ea4
  isplitl [Eb4]
  · iexact Eb4
  iexact Ea5

/-- The last three copies; the tokens are loaded. -/
theorem part7_run {v2 v173 : BitVec 32} {Q : (Σ' (v209 : FVec F S256x128 .bf16), FVec F S256x128 .bf16) → sProp (MT nD τ sig Unit (Elt F) ℕ UU ℕ)} :
    records m ρ K ⊢ iprop(ow c 3 -∗ copyRes c (true, 5) -∗ sTok m ρ c 5 -∗ (∃ f, slotSPts (F := F) (fwd 5 c) 5 f) -∗ copyRes c (false, 6) -∗ qTok m ρ c 6 -∗ (∃ f, slotQPts (F := F) (fwd 6 c) 6 f) -∗ copyRes c (true, 6) -∗ sTok m ρ c 6 -∗ (∃ f, slotSPts (F := F) (fwd 6 c) 6 f) -∗ own c cc0_stg0_0 (xStg m ρ c) -∗ (ow c 0 ∗ sentRes (F := F) c (true, 5) ∗ sentRes (F := F) c (false, 6) ∗ sentRes (F := F) c (true, 6) ∗ own c cc0_stg0_0 (xStg m ρ c) -∗ Q ⟨k0_pay9 (xL m ρ c), k0_pay10 (xL m ρ c)⟩)
      -∗ wpc c (onArgs (k0_part7 (F := F)) c v2 v173) Q) := by
  rw [k0_part7_eq_skeleton]
  unfold wpc onArgs k0_part7_skel
  simp only [semSignalWord, semWaitWord, Prog.lift, Prog.bind_op, Prog.bind_ret, Prog.pure_eq_ret]
  iintro #Hr HO Cb5 Hs5 Db5 Ca6 Hq6 Da6 Cb6 Hs6 Db6 Hx Hk
  iapply (step_sendS m ρ K c 5 _ (dev19_eq c) _ _ (by decide) (by decide) 2 rfl rfl) $$ Hr HO Cb5 Hs5 Db5
  iintro ⟨HO, Eb5⟩
  iapply (step_sendQ m ρ K c 6 _ (dev20_eq c) _ _ (by decide) (by decide) 1 rfl rfl) $$ Hr HO Ca6 Hq6 Da6
  iintro ⟨HO, Ea6⟩
  iapply (step_sendS m ρ K c 6 _ (dev21_eq c) _ _ (by decide) (by decide) 0 rfl rfl) $$ Hr HO Cb6 Hs6 Db6
  iintro ⟨HO, Eb6⟩
  iapply (wp_load 𝒱₀ (c : Thread nD τ) none Set.univ (m := xM) (Finset.subset_univ _)) $$ Hx
  iintro Hx
  iapply (wp_load 𝒱₀ (c : Thread nD τ) none Set.univ (m := xM) (Finset.subset_univ _)) $$ Hx
  iintro Hx
  rw [wp_ret]
  imodintro
  iapply Hk
  isplitl [HO]
  · iexact HO
  isplitl [Eb5]
  · iexact Eb5
  isplitl [Ea6]
  · iexact Ea6
  isplitl [Eb6]
  · iexact Eb6
  iexact Hx

/-- The gates and the shared expert. -/
theorem part8_run {v2 : BitVec 32} {v209 v211 : FVec F S256x128 .bf16}
    {Q : (Σ' (v244 : FVec F S256x16 .bf16) (v247 : FVec F S256x256 .f32) (v249 : FVec F S2x128x256 .bf16), FVec F S256x128 .bf16) → sProp (MT nD τ sig Unit (Elt F) ℕ UU ℕ)} :
    records m ρ K ⊢ iprop(own c cc0_stg1_0 (rStg m ρ c) -∗ own c cc0_stg2_0 (iStg m ρ c) -∗ own c cc0_stg4_0 (hStg m ρ c) -∗ own c cc0_stg3_0 (wStg m ρ c) -∗ (own c cc0_stg1_0 (rStg m ρ c) ∗ own c cc0_stg2_0 (iStg m ρ c) ∗ own c cc0_stg4_0 (hStg m ρ c) ∗ own c cc0_stg3_0 (wStg m ρ c) -∗ Q ⟨k0_pay11 v2 v211 (rL m ρ c) (iL m ρ c), k0_pay12 v209 (hL m ρ c), k0_pay13 (wL m ρ c), k0_pay14 v2 v211 (rL m ρ c) (iL m ρ c)⟩)
      -∗ wpc c (onArgs (k0_part8 (F := F)) v2 v209 v211) Q) := by
  rw [k0_part8_eq_skeleton]
  unfold wpc onArgs k0_part8_skel
  simp only [semSignalWord, semWaitWord, Prog.lift, Prog.bind_op, Prog.bind_ret, Prog.pure_eq_ret]
  iintro #Hr Hb Hi Hh Hw Hk
  iapply (wp_load 𝒱₀ (c : Thread nD τ) none Set.univ (m := rM) (Finset.subset_univ _)) $$ Hb
  iintro Hb
  iapply (wp_load 𝒱₀ (c : Thread nD τ) none Set.univ (m := iM) (Finset.subset_univ _)) $$ Hi
  iintro Hi
  iapply (wp_load 𝒱₀ (c : Thread nD τ) none Set.univ (m := hM) (Finset.subset_univ _)) $$ Hh
  iintro Hh
  iapply (wp_load 𝒱₀ (c : Thread nD τ) none Set.univ (m := wM) (Finset.subset_univ _)) $$ Hw
  iintro Hw
  rw [wp_ret]
  imodintro
  iapply Hk
  isplitl [Hb]
  · iexact Hb
  isplitl [Hi]
  · iexact Hi
  isplitl [Hh]
  · iexact Hh
  iexact Hw

/-- The device's own experts; slot 0 arrives. -/
theorem part9_run {v209 : FVec F S256x128 .bf16} {v244 : FVec F S256x16 .bf16} {v247 : FVec F S256x256 .f32} {v249 : FVec F S2x128x256 .bf16} {v251 : FVec F S256x128 .bf16}
    {Q : (Σ' (v263 : FVec F S256x256 .f32), FVec F S128x256 .bf16) → sProp (MT nD τ sig Unit (Elt F) ℕ UU ℕ)} :
    records m ρ K ⊢ iprop(ow c 0 -∗ rcvRes (F := F) c (false, 0) -∗ rcvRes (F := F) c (true, 0) -∗ (ow c 0 ∗ semVal (rcvCell c (false, 0)) 0 ∗ slotQPts c 0 (landQ m ρ c) ∗ semVal (rcvCell c (true, 0)) 0 ∗ slotSPts c 0 (landS m ρ c) -∗ Q ⟨k0_pay15 v209 v244 v247 v249 v251, k0_pay16 (lQ m ρ c 0) (lS m ρ c 0)⟩)
      -∗ wpc c (onArgs (k0_part9 (F := F)) v209 v244 v247 v249 v251) Q) := by
  rw [k0_part9_eq_skeleton]
  unfold wpc onArgs k0_part9_skel
  simp only [semSignalWord, semWaitWord, Prog.lift, Prog.bind_op, Prog.bind_ret, Prog.pure_eq_ret]
  iintro #Hr HO Ra0 Rb0 Hk
  iapply (step_rcvQ m ρ K c 0 _ (by decide) (credit_slotQ 0)) $$ Hr HO Ra0
  iintro ⟨HO, Va0, Pa0⟩
  iapply (step_rcvS m ρ K c 0 _ (by decide) (credit_slotS 0)) $$ Hr HO Rb0
  iintro ⟨HO, Vb0, Pb0⟩
  iapply (step_loadQ m ρ c 0) $$ Pa0
  iintro Pa0
  iapply (step_loadS m ρ c 0) $$ Pb0
  iintro Pb0
  rw [wp_ret]
  imodintro
  iapply Hk
  isplitl [HO]
  · iexact HO
  isplitl [Va0]
  · iexact Va0
  isplitl [Pa0]
  · iexact Pa0
  isplitl [Vb0]
  · iexact Vb0
  iexact Pb0

/-- Slot 0's experts; slot 1 arrives. -/
theorem part10_run {v209 : FVec F S256x128 .bf16} {v244 : FVec F S256x16 .bf16} {v263 : FVec F S256x256 .f32} {v285 : FVec F S128x256 .bf16}
    {Q : FVec F S256x256 .f32 → sProp (MT nD τ sig Unit (Elt F) ℕ UU ℕ)} :
    records m ρ K ⊢ iprop(ow c 0 -∗ rcvRes (F := F) c (false, 1) -∗ rcvRes (F := F) c (true, 1) -∗ slotQPts c 0 (landQ m ρ c) -∗ slotSPts c 0 (landS m ρ c) -∗ (ow c 0 ∗ semVal (rcvCell c (false, 1)) 0 ∗ slotQPts c 1 (landQ m ρ c) ∗ semVal (rcvCell c (true, 1)) 0 ∗ slotSPts c 1 (landS m ρ c) ∗ slotQPts c 0 (landQ m ρ c) ∗ slotSPts c 0 (landS m ρ c) -∗ Q (k0_pay17 v209 v244 v263 v285 (lQ m ρ c 0) (lS m ρ c 0)))
      -∗ wpc c (onArgs (k0_part10 (F := F)) v209 v244 v263 v285) Q) := by
  rw [k0_part10_eq_skeleton]
  unfold wpc onArgs k0_part10_skel
  simp only [semSignalWord, semWaitWord, Prog.lift, Prog.bind_op, Prog.bind_ret, Prog.pure_eq_ret]
  iintro #Hr HO Ra1 Rb1 Pa0 Pb0 Hk
  iapply (step_loadQ m ρ c 0) $$ Pa0
  iintro Pa0
  iapply (step_loadS m ρ c 0) $$ Pb0
  iintro Pb0
  iapply (step_rcvQ m ρ K c 1 _ (by decide) (credit_slotQ 1)) $$ Hr HO Ra1
  iintro ⟨HO, Va1, Pa1⟩
  iapply (step_rcvS m ρ K c 1 _ (by decide) (credit_slotS 1)) $$ Hr HO Rb1
  iintro ⟨HO, Vb1, Pb1⟩
  rw [wp_ret]
  imodintro
  iapply Hk
  isplitl [HO]
  · iexact HO
  isplitl [Va1]
  · iexact Va1
  isplitl [Pa1]
  · iexact Pa1
  isplitl [Vb1]
  · iexact Vb1
  isplitl [Pb1]
  · iexact Pb1
  isplitl [Pa0]
  · iexact Pa0
  iexact Pb0

/-- Slot 1's experts; slot 2's codes arrive. -/
theorem part11_run {v209 : FVec F S256x128 .bf16} {v244 : FVec F S256x16 .bf16} {v305 : FVec F S256x256 .f32}
    {Q : FVec F S256x256 .f32 → sProp (MT nD τ sig Unit (Elt F) ℕ UU ℕ)} :
    records m ρ K ⊢ iprop(ow c 0 -∗ rcvRes (F := F) c (false, 2) -∗ slotQPts c 1 (landQ m ρ c) -∗ slotSPts c 1 (landS m ρ c) -∗ (ow c 0 ∗ semVal (rcvCell c (false, 2)) 0 ∗ slotQPts c 2 (landQ m ρ c) ∗ slotQPts c 1 (landQ m ρ c) ∗ slotSPts c 1 (landS m ρ c) -∗ Q (k0_pay18 v209 v244 v305 (lQ m ρ c 1) (lS m ρ c 1) (lQ m ρ c 1) (lS m ρ c 1)))
      -∗ wpc c (onArgs (k0_part11 (F := F)) v209 v244 v305) Q) := by
  rw [k0_part11_eq_skeleton]
  unfold wpc onArgs k0_part11_skel
  simp only [semSignalWord, semWaitWord, Prog.lift, Prog.bind_op, Prog.bind_ret, Prog.pure_eq_ret]
  iintro #Hr HO Ra2 Pa1 Pb1 Hk
  iapply (step_loadQ m ρ c 1) $$ Pa1
  iintro Pa1
  iapply (step_loadS m ρ c 1) $$ Pb1
  iintro Pb1
  iapply (step_loadQ m ρ c 1) $$ Pa1
  iintro Pa1
  iapply (step_loadS m ρ c 1) $$ Pb1
  iintro Pb1
  iapply (step_rcvQ m ρ K c 2 _ (by decide) (credit_slotQ 2)) $$ Hr HO Ra2
  iintro ⟨HO, Va2, Pa2⟩
  rw [wp_ret]
  imodintro
  iapply Hk
  isplitl [HO]
  · iexact HO
  isplitl [Va2]
  · iexact Va2
  isplitl [Pa2]
  · iexact Pa2
  isplitl [Pa1]
  · iexact Pa1
  iexact Pb1

/-- Slot 2's experts. -/
theorem part12_run {v209 : FVec F S256x128 .bf16} {v244 : FVec F S256x16 .bf16} {v347 : FVec F S256x256 .f32}
    {Q : (Σ' (v389 : FVec F S256x256 .f32), BitVec 32) → sProp (MT nD τ sig Unit (Elt F) ℕ UU ℕ)} :
    records m ρ K ⊢ iprop(ow c 0 -∗ rcvRes (F := F) c (true, 2) -∗ slotQPts c 2 (landQ m ρ c) -∗ (ow c 0 ∗ semVal (rcvCell c (true, 2)) 0 ∗ slotSPts c 2 (landS m ρ c) ∗ slotQPts c 2 (landQ m ρ c) -∗ Q ⟨k0_pay19 v209 v244 v347 (lQ m ρ c 2) (lS m ρ c 2) (lQ m ρ c 2) (lS m ρ c 2), 0#32⟩)
      -∗ wpc c (onArgs (k0_part12 (F := F)) v209 v244 v347) Q) := by
  rw [k0_part12_eq_skeleton]
  unfold wpc onArgs k0_part12_skel
  simp only [semSignalWord, semWaitWord, Prog.lift, Prog.bind_op, Prog.bind_ret, Prog.pure_eq_ret]
  iintro #Hr HO Rb2 Pa2 Hk
  iapply (step_rcvS m ρ K c 2 _ (by decide) (credit_slotS 2)) $$ Hr HO Rb2
  iintro ⟨HO, Vb2, Pb2⟩
  iapply (step_loadQ m ρ c 2) $$ Pa2
  iintro Pa2
  iapply (step_loadS m ρ c 2) $$ Pb2
  iintro Pb2
  iapply (step_loadQ m ρ c 2) $$ Pa2
  iintro Pa2
  iapply (step_loadS m ρ c 2) $$ Pb2
  iintro Pb2
  rw [wp_ret]
  imodintro
  iapply Hk
  isplitl [HO]
  · iexact HO
  isplitl [Vb2]
  · iexact Vb2
  isplitl [Pb2]
  · iexact Pb2
  iexact Pa2

/-- Slot 3's first expert. -/
theorem part13_run {v209 : FVec F S256x128 .bf16} {v244 : FVec F S256x16 .bf16} {v389 : FVec F S256x256 .f32} {c0 : BitVec 32}
    {Q : (Σ' (v416 : FVec F S256x256 .f32) (v419 : IVec S128x256 8), FVec F S1x256 .f32) → sProp (MT nD τ sig Unit (Elt F) ℕ UU ℕ)} :
    records m ρ K ⊢ iprop(ow c 0 -∗ rcvRes (F := F) c (false, 3) -∗ rcvRes (F := F) c (true, 3) -∗ (ow c 0 ∗ semVal (rcvCell c (false, 3)) 0 ∗ slotQPts c 3 (landQ m ρ c) ∗ semVal (rcvCell c (true, 3)) 0 ∗ slotSPts c 3 (landS m ρ c) -∗ Q ⟨k0_pay20 v209 v244 v389 (lQ m ρ c 3) (lS m ρ c 3), k0_pay21 (lQ m ρ c 3), k0_pay22 (lS m ρ c 3)⟩)
      -∗ wpc c (onArgs (k0_part13 (F := F)) v209 v244 v389 c0) Q) := by
  rw [k0_part13_eq_skeleton]
  unfold wpc onArgs k0_part13_skel
  simp only [semSignalWord, semWaitWord, Prog.lift, Prog.bind_op, Prog.bind_ret, Prog.pure_eq_ret]
  iintro #Hr HO Ra3 Rb3 Hk
  iapply (step_rcvQ m ρ K c 3 _ (by decide) (credit_slotQ 3)) $$ Hr HO Ra3
  iintro ⟨HO, Va3, Pa3⟩
  iapply (step_rcvS m ρ K c 3 _ (by decide) (credit_slotS 3)) $$ Hr HO Rb3
  iintro ⟨HO, Vb3, Pb3⟩
  iapply (step_loadQ m ρ c 3) $$ Pa3
  iintro Pa3
  iapply (step_loadS m ρ c 3) $$ Pb3
  iintro Pb3
  iapply (step_loadQ m ρ c 3) $$ Pa3
  iintro Pa3
  iapply (step_loadS m ρ c 3) $$ Pb3
  iintro Pb3
  rw [wp_ret]
  imodintro
  iapply Hk
  isplitl [HO]
  · iexact HO
  isplitl [Va3]
  · iexact Va3
  isplitl [Pa3]
  · iexact Pa3
  isplitl [Vb3]
  · iexact Vb3
  iexact Pb3

/-- Slot 3's second expert; slot 4 arrives. -/
theorem part14_run {v209 : FVec F S256x128 .bf16} {v244 : FVec F S256x16 .bf16} {v416 : FVec F S256x256 .f32} {v419 : IVec S128x256 8} {v422 : FVec F S1x256 .f32}
    {Q : (Σ' (v431 : FVec F S256x256 .f32) (v453 : FVec F S128x256 .bf16) (v456 : FVec F S256x128 .bf16), FVec F S256x256 .f32) → sProp (MT nD τ sig Unit (Elt F) ℕ UU ℕ)} :
    records m ρ K ⊢ iprop(ow c 0 -∗ rcvRes (F := F) c (false, 4) -∗ rcvRes (F := F) c (true, 4) -∗ (ow c 0 ∗ semVal (rcvCell c (false, 4)) 0 ∗ slotQPts c 4 (landQ m ρ c) ∗ semVal (rcvCell c (true, 4)) 0 ∗ slotSPts c 4 (landS m ρ c) -∗ Q ⟨k0_pay23 v209 v244 v416 v419 v422, k0_pay24 (lQ m ρ c 4) (lS m ρ c 4), k0_pay25 v209 v244, constant S256x256 .f32 0x00000000#32⟩)
      -∗ wpc c (onArgs (k0_part14 (F := F)) v209 v244 v416 v419 v422) Q) := by
  rw [k0_part14_eq_skeleton]
  unfold wpc onArgs k0_part14_skel
  simp only [semSignalWord, semWaitWord, Prog.lift, Prog.bind_op, Prog.bind_ret, Prog.pure_eq_ret]
  iintro #Hr HO Ra4 Rb4 Hk
  iapply (step_rcvQ m ρ K c 4 _ (by decide) (credit_slotQ 4)) $$ Hr HO Ra4
  iintro ⟨HO, Va4, Pa4⟩
  iapply (step_rcvS m ρ K c 4 _ (by decide) (credit_slotS 4)) $$ Hr HO Rb4
  iintro ⟨HO, Vb4, Pb4⟩
  iapply (step_loadQ m ρ c 4) $$ Pa4
  iintro Pa4
  iapply (step_loadS m ρ c 4) $$ Pb4
  iintro Pb4
  rw [wp_ret]
  imodintro
  iapply Hk
  isplitl [HO]
  · iexact HO
  isplitl [Va4]
  · iexact Va4
  isplitl [Pa4]
  · iexact Pa4
  isplitl [Vb4]
  · iexact Vb4
  iexact Pb4

/-- Slot 4's experts; slot 5 arrives. -/
theorem part15_run {v209 : FVec F S256x128 .bf16} {v244 : FVec F S256x16 .bf16} {v431 : FVec F S256x256 .f32} {v453 : FVec F S128x256 .bf16} {v456 : FVec F S256x128 .bf16}
    {z : FVec F S256x256 .f32} {Q : (Σ' (v473 : FVec F S256x256 .f32), IVec S128x256 8) → sProp (MT nD τ sig Unit (Elt F) ℕ UU ℕ)} :
    records m ρ K ⊢ iprop(ow c 0 -∗ rcvRes (F := F) c (false, 5) -∗ rcvRes (F := F) c (true, 5) -∗ slotQPts c 4 (landQ m ρ c) -∗ slotSPts c 4 (landS m ρ c) -∗ (ow c 0 ∗ semVal (rcvCell c (false, 5)) 0 ∗ slotQPts c 5 (landQ m ρ c) ∗ semVal (rcvCell c (true, 5)) 0 ∗ slotSPts c 5 (landS m ρ c) ∗ slotQPts c 4 (landQ m ρ c) ∗ slotSPts c 4 (landS m ρ c) -∗ Q ⟨k0_pay26 v209 v244 v431 v453 v456 z (lQ m ρ c 4) (lS m ρ c 4), k0_pay27 (lQ m ρ c 5)⟩)
      -∗ wpc c (onArgs (k0_part15 (F := F)) v209 v244 v431 v453 v456 z) Q) := by
  rw [k0_part15_eq_skeleton]
  unfold wpc onArgs k0_part15_skel
  simp only [semSignalWord, semWaitWord, Prog.lift, Prog.bind_op, Prog.bind_ret, Prog.pure_eq_ret]
  iintro #Hr HO Ra5 Rb5 Pa4 Pb4 Hk
  iapply (step_loadQ m ρ c 4) $$ Pa4
  iintro Pa4
  iapply (step_loadS m ρ c 4) $$ Pb4
  iintro Pb4
  iapply (step_rcvQ m ρ K c 5 _ (by decide) (credit_slotQ 5)) $$ Hr HO Ra5
  iintro ⟨HO, Va5, Pa5⟩
  iapply (step_rcvS m ρ K c 5 _ (by decide) (credit_slotS 5)) $$ Hr HO Rb5
  iintro ⟨HO, Vb5, Pb5⟩
  iapply (step_loadQ m ρ c 5) $$ Pa5
  iintro Pa5
  rw [wp_ret]
  imodintro
  iapply Hk
  isplitl [HO]
  · iexact HO
  isplitl [Va5]
  · iexact Va5
  isplitl [Pa5]
  · iexact Pa5
  isplitl [Vb5]
  · iexact Vb5
  isplitl [Pb5]
  · iexact Pb5
  isplitl [Pa4]
  · iexact Pa4
  iexact Pb4

/-- Slot 5's experts; slot 6's codes arrive. -/
theorem part16_run {v209 : FVec F S256x128 .bf16} {v244 : FVec F S256x16 .bf16} {v473 : FVec F S256x256 .f32} {v488 : IVec S128x256 8}
    {Q : (Σ' (v515 : FVec F S256x256 .f32) (v522 : BitVec 32), BitVec 32) → sProp (MT nD τ sig Unit (Elt F) ℕ UU ℕ)} :
    records m ρ K ⊢ iprop(ow c 0 -∗ rcvRes (F := F) c (false, 6) -∗ slotSPts c 5 (landS m ρ c) -∗ slotQPts c 5 (landQ m ρ c) -∗ (ow c 0 ∗ semVal (rcvCell c (false, 6)) 0 ∗ slotQPts c 6 (landQ m ρ c) ∗ slotSPts c 5 (landS m ρ c) ∗ slotQPts c 5 (landQ m ρ c) -∗ Q ⟨k0_pay28 v209 v244 v473 v488 (lS m ρ c 5) (lQ m ρ c 5) (lS m ρ c 5), Scalar.muli 0#32 1#32, 0#32⟩)
      -∗ wpc c (onArgs (k0_part16 (F := F)) v209 v244 v473 v488) Q) := by
  rw [k0_part16_eq_skeleton]
  unfold wpc onArgs k0_part16_skel
  simp only [semSignalWord, semWaitWord, Prog.lift, Prog.bind_op, Prog.bind_ret, Prog.pure_eq_ret]
  iintro #Hr HO Ra6 Pb5 Pa5 Hk
  iapply (step_loadS m ρ c 5) $$ Pb5
  iintro Pb5
  iapply (step_loadQ m ρ c 5) $$ Pa5
  iintro Pa5
  iapply (step_loadS m ρ c 5) $$ Pb5
  iintro Pb5
  iapply (step_rcvQ m ρ K c 6 _ (by decide) (credit_slotQ 6)) $$ Hr HO Ra6
  iintro ⟨HO, Va6, Pa6⟩
  rw [wp_ret]
  imodintro
  iapply Hk
  isplitl [HO]
  · iexact HO
  isplitl [Va6]
  · iexact Va6
  isplitl [Pa6]
  · iexact Pa6
  isplitl [Pb5]
  · iexact Pb5
  iexact Pa5

/-- Slot 6's experts, and the result stored. -/
theorem part17_run {v209 : FVec F S256x128 .bf16} {v244 : FVec F S256x16 .bf16} {v515 : FVec F S256x256 .f32} {v522 c0 : BitVec 32}
    (fo : (cc0_stg5_0 : Ref sig .tc).ty.Contents (Elt F)) {Q : PUnit → sProp (MT nD τ sig Unit (Elt F) ℕ UU ℕ)} :
    records m ρ K ⊢ iprop(ow c 0 -∗ rcvRes (F := F) c (true, 6) -∗ slotQPts c 6 (landQ m ρ c) -∗ own c cc0_stg5_0 fo -∗ (ow c 0 ∗ semVal (rcvCell c (true, 6)) 0 ∗ slotSPts c 6 (landS m ρ c) ∗ slotQPts c 6 (landQ m ρ c) ∗ own c cc0_stg5_0 (k0_pay29 v209 v244 v515 (lQ m ρ c 6) (lS m ρ c 6) (lQ m ρ c 6) (lS m ρ c 6)) -∗ Q ⟨⟩)
      -∗ wpc c (onArgs (k0_part17 (F := F)) v209 v244 v515 v522 c0) Q) := by
  rw [k0_part17_eq_skeleton]
  unfold wpc onArgs k0_part17_skel
  simp only [semSignalWord, semWaitWord, Prog.lift, Prog.bind_op, Prog.bind_ret, Prog.pure_eq_ret]
  iintro #Hr HO Rb6 Pa6 Ho Hk
  iapply (step_rcvS m ρ K c 6 _ (by decide) (credit_slotS 6)) $$ Hr HO Rb6
  iintro ⟨HO, Vb6, Pb6⟩
  iapply (step_loadQ m ρ c 6) $$ Pa6
  iintro Pa6
  iapply (step_loadS m ρ c 6) $$ Pb6
  iintro Pb6
  iapply (step_loadQ m ρ c 6) $$ Pa6
  iintro Pa6
  iapply (step_loadS m ρ c 6) $$ Pb6
  iintro Pb6
  iapply (wp_load 𝒱₀ (c : Thread nD τ) none Set.univ (m := oM) (Finset.subset_univ _)) $$ Ho
  iintro Ho
  iapply (wp_store 𝒱₀ (c : Thread nD τ) none Set.univ (m := oM) (r := rO) (Mk := Finset.univ) (Finset.subset_univ _)) $$ Ho
  iintro Ho
  rw [storeO fo]
  rw [wp_ret]
  imodintro
  iapply Hk
  isplitl [HO]
  · iexact HO
  isplitl [Vb6]
  · iexact Vb6
  isplitl [Pb6]
  · iexact Pb6
  isplitl [Pa6]
  · iexact Pa6
  iexact Ho

/-- Five copies of the codes have been read. -/
theorem part18_run {Q : PUnit → sProp (MT nD τ sig Unit (Elt F) ℕ UU ℕ)} :
    records m ρ K ⊢ iprop(ow c 0 -∗ atPos ER (sndCell c (false, 0)) 0 ∅ 0 -∗ sentRes (F := F) c (false, 0) -∗ atPos ER (sndCell c (false, 1)) 0 ∅ 0 -∗ sentRes (F := F) c (false, 1) -∗ atPos ER (sndCell c (false, 2)) 0 ∅ 0 -∗ sentRes (F := F) c (false, 2) -∗ atPos ER (sndCell c (false, 3)) 0 ∅ 0 -∗ sentRes (F := F) c (false, 3) -∗ atPos ER (sndCell c (false, 4)) 0 ∅ 0 -∗ sentRes (F := F) c (false, 4) -∗ (ow c 0 ∗ semVal (sndCell c (false, 0)) 0 ∗ qTok m ρ c 0 ∗ semVal (sndCell c (false, 1)) 0 ∗ qTok m ρ c 1 ∗ semVal (sndCell c (false, 2)) 0 ∗ qTok m ρ c 2 ∗ semVal (sndCell c (false, 3)) 0 ∗ qTok m ρ c 3 ∗ semVal (sndCell c (false, 4)) 0 ∗ qTok m ρ c 4 -∗ Q ⟨⟩)
      -∗ wpc c (onArgs (k0_part18 (F := F))) Q) := by
  rw [k0_part18_eq_skeleton]
  unfold wpc onArgs k0_part18_skel
  simp only [semSignalWord, semWaitWord, Prog.lift, Prog.bind_op, Prog.bind_ret, Prog.pure_eq_ret]
  iintro #Hr HO Ta0 Ea0 Ta1 Ea1 Ta2 Ea2 Ta3 Ea3 Ta4 Ea4 Hk
  iapply (step_sndQ m ρ K c 0 _ (by decide) credit_q) $$ Hr HO Ta0 Ea0
  iintro ⟨HO, Wa0, Ha0⟩
  iapply (step_sndQ m ρ K c 1 _ (by decide) credit_q) $$ Hr HO Ta1 Ea1
  iintro ⟨HO, Wa1, Ha1⟩
  iapply (step_sndQ m ρ K c 2 _ (by decide) credit_q) $$ Hr HO Ta2 Ea2
  iintro ⟨HO, Wa2, Ha2⟩
  iapply (step_sndQ m ρ K c 3 _ (by decide) credit_q) $$ Hr HO Ta3 Ea3
  iintro ⟨HO, Wa3, Ha3⟩
  iapply (step_sndQ m ρ K c 4 _ (by decide) credit_q) $$ Hr HO Ta4 Ea4
  iintro ⟨HO, Wa4, Ha4⟩
  rw [wp_ret]
  imodintro
  iapply Hk
  isplitl [HO]
  · iexact HO
  isplitl [Wa0]
  · iexact Wa0
  isplitl [Ha0]
  · iexact Ha0
  isplitl [Wa1]
  · iexact Wa1
  isplitl [Ha1]
  · iexact Ha1
  isplitl [Wa2]
  · iexact Wa2
  isplitl [Ha2]
  · iexact Ha2
  isplitl [Wa3]
  · iexact Wa3
  isplitl [Ha3]
  · iexact Ha3
  isplitl [Wa4]
  · iexact Wa4
  iexact Ha4

/-- The other two, and three of the scales. -/
theorem part19_run {Q : PUnit → sProp (MT nD τ sig Unit (Elt F) ℕ UU ℕ)} :
    records m ρ K ⊢ iprop(ow c 0 -∗ atPos ER (sndCell c (false, 5)) 0 ∅ 0 -∗ sentRes (F := F) c (false, 5) -∗ atPos ER (sndCell c (false, 6)) 0 ∅ 0 -∗ sentRes (F := F) c (false, 6) -∗ atPos ER (sndCell c (true, 0)) 0 ∅ 0 -∗ sentRes (F := F) c (true, 0) -∗ atPos ER (sndCell c (true, 1)) 0 ∅ 0 -∗ sentRes (F := F) c (true, 1) -∗ atPos ER (sndCell c (true, 2)) 0 ∅ 0 -∗ sentRes (F := F) c (true, 2) -∗ (ow c 0 ∗ semVal (sndCell c (false, 5)) 0 ∗ qTok m ρ c 5 ∗ semVal (sndCell c (false, 6)) 0 ∗ qTok m ρ c 6 ∗ semVal (sndCell c (true, 0)) 0 ∗ sTok m ρ c 0 ∗ semVal (sndCell c (true, 1)) 0 ∗ sTok m ρ c 1 ∗ semVal (sndCell c (true, 2)) 0 ∗ sTok m ρ c 2 -∗ Q ⟨⟩)
      -∗ wpc c (onArgs (k0_part19 (F := F))) Q) := by
  rw [k0_part19_eq_skeleton]
  unfold wpc onArgs k0_part19_skel
  simp only [semSignalWord, semWaitWord, Prog.lift, Prog.bind_op, Prog.bind_ret, Prog.pure_eq_ret]
  iintro #Hr HO Ta5 Ea5 Ta6 Ea6 Tb0 Eb0 Tb1 Eb1 Tb2 Eb2 Hk
  iapply (step_sndQ m ρ K c 5 _ (by decide) credit_q) $$ Hr HO Ta5 Ea5
  iintro ⟨HO, Wa5, Ha5⟩
  iapply (step_sndQ m ρ K c 6 _ (by decide) credit_q) $$ Hr HO Ta6 Ea6
  iintro ⟨HO, Wa6, Ha6⟩
  iapply (step_sndS m ρ K c 0 _ (by decide) credit_s) $$ Hr HO Tb0 Eb0
  iintro ⟨HO, Wb0, Hb0⟩
  iapply (step_sndS m ρ K c 1 _ (by decide) credit_s) $$ Hr HO Tb1 Eb1
  iintro ⟨HO, Wb1, Hb1⟩
  iapply (step_sndS m ρ K c 2 _ (by decide) credit_s) $$ Hr HO Tb2 Eb2
  iintro ⟨HO, Wb2, Hb2⟩
  rw [wp_ret]
  imodintro
  iapply Hk
  isplitl [HO]
  · iexact HO
  isplitl [Wa5]
  · iexact Wa5
  isplitl [Ha5]
  · iexact Ha5
  isplitl [Wa6]
  · iexact Wa6
  isplitl [Ha6]
  · iexact Ha6
  isplitl [Wb0]
  · iexact Wb0
  isplitl [Hb0]
  · iexact Hb0
  isplitl [Wb1]
  · iexact Wb1
  isplitl [Hb1]
  · iexact Hb1
  isplitl [Wb2]
  · iexact Wb2
  iexact Hb2

end Cert.KernelIdealProof
-- ==== Proof.Body.lean ====
/-
  The kernel's body whole: the parts in order, from what a device starts with to what it ends with, and the contents it
  stores as its result.
-/
module

public import proofs.«01_k».proof.Proof.Parts

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

variable (K : Dev nD × Cix → ℕ) (c : Dev nD)

/-! ## The values -/

/-- The tokens in the two uses the kernel makes of them, and the gates of the device's tokens, a column an expert, the
    device's own two experts' columns first. -/
def x1 : FVec F S256x128 .bf16 := k0_pay9 (xL m ρ c)
def x2 : FVec F S256x128 .bf16 := k0_pay10 (xL m ρ c)
def gates : FVec F S256x16 .bf16 := k0_pay11 (place c) (x2 m ρ c) (rL m ρ c) (iL m ρ c)
/-- The running sum: the shared expert, the own two, then slot after slot (a slot's two experts at a time). -/
def sumOwn : FVec F S256x256 .f32 :=
  k0_pay15 (x1 m ρ c) (gates m ρ c) (k0_pay12 (x1 m ρ c) (hL m ρ c)) (k0_pay13 (wL m ρ c)) (k0_pay14 (place c) (x2 m ρ c) (rL m ρ c) (iL m ρ c))
def sum0 : FVec F S256x256 .f32 := k0_pay17 (x1 m ρ c) (gates m ρ c) (sumOwn m ρ c) (k0_pay16 (lQ m ρ c 0) (lS m ρ c 0)) (lQ m ρ c 0) (lS m ρ c 0)
def sum1 : FVec F S256x256 .f32 := k0_pay18 (x1 m ρ c) (gates m ρ c) (sum0 m ρ c) (lQ m ρ c 1) (lS m ρ c 1) (lQ m ρ c 1) (lS m ρ c 1)
def sum2 : FVec F S256x256 .f32 := k0_pay19 (x1 m ρ c) (gates m ρ c) (sum1 m ρ c) (lQ m ρ c 2) (lS m ρ c 2) (lQ m ρ c 2) (lS m ρ c 2)
def sum3a : FVec F S256x256 .f32 := k0_pay20 (x1 m ρ c) (gates m ρ c) (sum2 m ρ c) (lQ m ρ c 3) (lS m ρ c 3)
def sum3 : FVec F S256x256 .f32 := k0_pay23 (x1 m ρ c) (gates m ρ c) (sum3a m ρ c) (k0_pay21 (lQ m ρ c 3)) (k0_pay22 (lS m ρ c 3))
def sum4 : FVec F S256x256 .f32 :=
  k0_pay26 (x1 m ρ c) (gates m ρ c) (sum3 m ρ c) (k0_pay24 (lQ m ρ c 4) (lS m ρ c 4)) (k0_pay25 (x1 m ρ c) (gates m ρ c))
    (constant S256x256 .f32 0x00000000#32) (lQ m ρ c 4) (lS m ρ c 4)
def sum5 : FVec F S256x256 .f32 := k0_pay28 (x1 m ρ c) (gates m ρ c) (sum4 m ρ c) (k0_pay27 (lQ m ρ c 5)) (lS m ρ c 5) (lQ m ρ c 5) (lS m ρ c 5)
/-- What the device stores as its result. -/
def outAt : (cc0_stg5_0 : Ref sig .tc).ty.Contents (Elt F) :=
  k0_pay29 (x1 m ρ c) (gates m ρ c) (sum5 m ρ c) (lQ m ρ c 6) (lS m ρ c 6) (lQ m ρ c 6) (lS m ρ c 6)

/-! ## The run -/

/-- Something for each of the seven slots (copies). -/
abbrev all7 (Φ : Fin 7 → sProp (MT nD τ sig Unit (Elt F) ℕ UU ℕ)) : sProp 𝕄 := bigSep Finset.univ Φ

/-- The staged arguments. -/
def staged : sProp 𝕄 :=
  iprop(own c cc0_stg0_0 (xStg m ρ c) ∗ own c cc0_stg1_0 (rStg m ρ c) ∗ own c cc0_stg2_0 (iStg m ρ c) ∗ own c cc0_stg3_0 (wStg m ρ c) ∗ own c cc0_stg4_0 (hStg m ρ c))

def bodyStart : sProp 𝕄 :=
  iprop(levAts L lv ∗ barRes c ∗ all7 (fun s => sigRes c s)
    ∗ all7 (fun j => copyRes c (false, j)) ∗ all7 (fun j => copyRes c (true, j))
    ∗ all7 (fun j => rcvRes c (false, j)) ∗ all7 (fun j => rcvRes c (true, j))
    ∗ all7 (fun j => atPos ER (sndCell c (false, j)) 0 ∅ 0) ∗ all7 (fun j => atPos ER (sndCell c (true, j)) 0 ∅ 0))

def bodyEnd : sProp 𝕄 :=
  iprop(semVal (barCell c) 0
    ∗ (all7 (fun j => semVal (rcvCell c (false, j)) 0) ∗ all7 (fun j => semVal (rcvCell c (true, j)) 0))
    ∗ (all7 (fun j => semVal (sndCell c (false, j)) 0) ∗ all7 (fun j => semVal (sndCell c (true, j)) 0))
    ∗ all7 (fun j => slotQPts c j (landQ m ρ c)) ∗ all7 (fun j => slotSPts c j (landS m ρ c))
    ∗ own c cc0_scratch0 (codes m ρ c) ∗ own c cc0_scratch1 (scales m ρ c))

set_option maxHeartbeats 4000000 in
theorem body_run (fq : (cc0_scratch0 : Ref sig .tc).ty.Contents (Elt F)) (fs : (cc0_scratch1 : Ref sig .tc).ty.Contents (Elt F))
    (fo : (cc0_stg5_0 : Ref sig .tc).ty.Contents (Elt F)) {Q : PUnit → sProp (MT nD τ sig Unit (Elt F) ℕ UU ℕ)} :
    records m ρ K ⊢ iprop(ow c 21 -∗ bodyStart c -∗ staged m ρ c -∗ own c cc0_stg5_0 fo -∗ own c cc0_scratch0 fq -∗ own c cc0_scratch1 fs
      -∗ (ow c 0 ∗ bodyEnd m ρ c ∗ staged m ρ c ∗ own c cc0_stg5_0 (outAt m ρ c) -∗ Q ⟨⟩)
      -∗ wpc c (onArgs (cc0_body (F := F))) Q) := by
  rw [cc0_body_eq_skeleton]
  unfold wpc onArgs cc0_body_skel
  rw [k0_part20_eq_skeleton]
  unfold k0_part20_skel bodyStart staged all7
  simp only [fin7_sep, Prog.lift, Prog.bind_op, Prog.bind_ret, Prog.pure_eq_ret, wp_bind]
  iintro #Hr HO ⟨#Hlev, Hb, ⟨HS0, HS1, HS2, HS3, HS4, HS5, HS6⟩, ⟨Ca0, Ca1, Ca2, Ca3, Ca4, Ca5, Ca6⟩, ⟨Cb0, Cb1, Cb2, Cb3, Cb4, Cb5, Cb6⟩, ⟨Ra0, Ra1, Ra2, Ra3, Ra4, Ra5, Ra6⟩, ⟨Rb0, Rb1, Rb2, Rb3, Rb4, Rb5, Rb6⟩, ⟨Ta0, Ta1, Ta2, Ta3, Ta4, Ta5, Ta6⟩, ⟨Tb0, Tb1, Tb2, Tb3, Tb4, Tb5, Tb6⟩⟩ ⟨Hx, Hrw, Hi, Hw, Hh⟩ Ho Hq Hs Hk
  iapply (part1_run m ρ K c) $$ Hr HO HS0 HS1 HS2 HS3 HS4
  iintro HO
  iapply (part2_run m ρ K c fq fs) $$ Hr Hlev HO HS5 HS6 Hb Hw Hq Hs
  iintro ⟨HO, Vbar, Hp, Hw, Hq, Hs⟩
  ihave Hp' := (Entails.of_eq (fin7_sep (fun k => barPay (F := F) c k))) $$ Hp
  unfold barPay
  icases Hp' with ⟨⟨Da0, Db0⟩, ⟨Da1, Db1⟩, ⟨Da2, Db2⟩, ⟨Da3, Db3⟩, ⟨Da4, Db4⟩, ⟨Da5, Db5⟩, ⟨Da6, Db6⟩⟩
  iapply (part3_run m ρ K c fq fs) $$ Hr HO Hw Hq Hs Ca0 Da0
  iintro ⟨HO, Hw, Ea0, HqR, Hq1, Hq2, Hq3, Hq4, Hq5, Hq6, HsR, Hs0, Hs1, Hs2, Hs3, Hs4, Hs5, Hs6⟩
  iapply (part4_run m ρ K c) $$ Hr HO Cb0 Hs0 Db0 Ca1 Hq1 Da1 Cb1 Hs1 Db1
  iintro ⟨HO, Eb0, Ea1, Eb1⟩
  iapply (part5_run m ρ K c) $$ Hr HO Ca2 Hq2 Da2 Cb2 Hs2 Db2 Ca3 Hq3 Da3
  iintro ⟨HO, Ea2, Eb2, Ea3⟩
  iapply (part6_run m ρ K c) $$ Hr HO Cb3 Hs3 Db3 Ca4 Hq4 Da4 Cb4 Hs4 Db4 Ca5 Hq5 Da5
  iintro ⟨HO, Eb3, Ea4, Eb4, Ea5⟩
  iapply (part7_run m ρ K c) $$ Hr HO Cb5 Hs5 Db5 Ca6 Hq6 Da6 Cb6 Hs6 Db6 Hx
  iintro ⟨HO, Eb5, Ea6, Eb6, Hx⟩
  iapply (part8_run m ρ K c) $$ Hr Hrw Hi Hh Hw
  iintro ⟨Hrw, Hi, Hh, Hw⟩
  iapply (part9_run m ρ K c) $$ Hr HO Ra0 Rb0
  iintro ⟨HO, Va0, Pa0, Vb0, Pb0⟩
  iapply (part10_run m ρ K c) $$ Hr HO Ra1 Rb1 Pa0 Pb0
  iintro ⟨HO, Va1, Pa1, Vb1, Pb1, Pa0, Pb0⟩
  iapply (part11_run m ρ K c) $$ Hr HO Ra2 Pa1 Pb1
  iintro ⟨HO, Va2, Pa2, Pa1, Pb1⟩
  iapply (part12_run m ρ K c) $$ Hr HO Rb2 Pa2
  iintro ⟨HO, Vb2, Pb2, Pa2⟩
  iapply (part13_run m ρ K c) $$ Hr HO Ra3 Rb3
  iintro ⟨HO, Va3, Pa3, Vb3, Pb3⟩
  iapply (part14_run m ρ K c) $$ Hr HO Ra4 Rb4
  iintro ⟨HO, Va4, Pa4, Vb4, Pb4⟩
  iapply (part15_run m ρ K c) $$ Hr HO Ra5 Rb5 Pa4 Pb4
  iintro ⟨HO, Va5, Pa5, Vb5, Pb5, Pa4, Pb4⟩
  iapply (part16_run m ρ K c) $$ Hr HO Ra6 Pb5 Pa5
  iintro ⟨HO, Va6, Pa6, Pb5, Pa5⟩
  iapply (part17_run m ρ K c fo) $$ Hr HO Rb6 Pa6 Ho
  iintro ⟨HO, Vb6, Pb6, Pa6, Ho⟩
  iapply (part18_run m ρ K c) $$ Hr HO Ta0 Ea0 Ta1 Ea1 Ta2 Ea2 Ta3 Ea3 Ta4 Ea4
  iintro ⟨HO, Wa0, Hq0, Wa1, Hq1, Wa2, Hq2, Wa3, Hq3, Wa4, Hq4⟩
  iapply (part19_run m ρ K c) $$ Hr HO Ta5 Ea5 Ta6 Ea6 Tb0 Eb0 Tb1 Eb1 Tb2 Eb2
  iintro ⟨HO, Wa5, Hq5, Wa6, Hq6, Wb0, Hs0, Wb1, Hs1, Wb2, Hs2⟩
  iapply (step_sndS m ρ K c 3 _ (by decide) credit_s) $$ Hr HO Tb3 Eb3
  iintro ⟨HO, Wb3, Hs3⟩
  iapply (step_sndS m ρ K c 4 _ (by decide) credit_s) $$ Hr HO Tb4 Eb4
  iintro ⟨HO, Wb4, Hs4⟩
  iapply (step_sndS m ρ K c 5 _ (by decide) credit_s) $$ Hr HO Tb5 Eb5
  iintro ⟨HO, Wb5, Hs5⟩
  rw [wp_ret]
  imodintro
  iapply (step_sndS m ρ K c 6 _ (by decide) credit_s) $$ Hr HO Tb6 Eb6
  iintro ⟨HO, Wb6, Hs6⟩
  rw [wp_ret]
  imodintro
  iapply Hk
  unfold bodyEnd all7
  simp only [fin7_sep]
  ihave HQ := (q_unshare m ρ c) $$ [HqR Hq0 Hq1 Hq2 Hq3 Hq4 Hq5 Hq6]
  · isplitl [HqR]
    · iexact HqR
    isplitl [Hq0]
    · iexact Hq0
    isplitl [Hq1]
    · iexact Hq1
    isplitl [Hq2]
    · iexact Hq2
    isplitl [Hq3]
    · iexact Hq3
    isplitl [Hq4]
    · iexact Hq4
    isplitl [Hq5]
    · iexact Hq5
    iexact Hq6
  ihave HSc := (s_unshare m ρ c) $$ [HsR Hs0 Hs1 Hs2 Hs3 Hs4 Hs5 Hs6]
  · isplitl [HsR]
    · iexact HsR
    isplitl [Hs0]
    · iexact Hs0
    isplitl [Hs1]
    · iexact Hs1
    isplitl [Hs2]
    · iexact Hs2
    isplitl [Hs3]
    · iexact Hs3
    isplitl [Hs4]
    · iexact Hs4
    isplitl [Hs5]
    · iexact Hs5
    iexact Hs6
  isplitl [HO]
  · iexact HO
  isplitl [Vbar Va0 Va1 Va2 Va3 Va4 Va5 Va6 Vb0 Vb1 Vb2 Vb3 Vb4 Vb5 Vb6 Wa0 Wa1 Wa2 Wa3 Wa4 Wa5 Wa6 Wb0 Wb1 Wb2 Wb3 Wb4 Wb5 Wb6 Pa0 Pa1 Pa2 Pa3 Pa4 Pa5 Pa6 Pb0 Pb1 Pb2 Pb3 Pb4 Pb5 Pb6 HQ HSc]
  · isplitl [Vbar]
    · iexact Vbar
    isplitl [Va0 Va1 Va2 Va3 Va4 Va5 Va6 Vb0 Vb1 Vb2 Vb3 Vb4 Vb5 Vb6]
    · isplitl [Va0 Va1 Va2 Va3 Va4 Va5 Va6]
      · isplitl [Va0]
        · iexact Va0
        isplitl [Va1]
        · iexact Va1
        isplitl [Va2]
        · iexact Va2
        isplitl [Va3]
        · iexact Va3
        isplitl [Va4]
        · iexact Va4
        isplitl [Va5]
        · iexact Va5
        iexact Va6
      isplitl [Vb0]
      · iexact Vb0
      isplitl [Vb1]
      · iexact Vb1
      isplitl [Vb2]
      · iexact Vb2
      isplitl [Vb3]
      · iexact Vb3
      isplitl [Vb4]
      · iexact Vb4
      isplitl [Vb5]
      · iexact Vb5
      iexact Vb6
    isplitl [Wa0 Wa1 Wa2 Wa3 Wa4 Wa5 Wa6 Wb0 Wb1 Wb2 Wb3 Wb4 Wb5 Wb6]
    · isplitl [Wa0 Wa1 Wa2 Wa3 Wa4 Wa5 Wa6]
      · isplitl [Wa0]
        · iexact Wa0
        isplitl [Wa1]
        · iexact Wa1
        isplitl [Wa2]
        · iexact Wa2
        isplitl [Wa3]
        · iexact Wa3
        isplitl [Wa4]
        · iexact Wa4
        isplitl [Wa5]
        · iexact Wa5
        iexact Wa6
      isplitl [Wb0]
      · iexact Wb0
      isplitl [Wb1]
      · iexact Wb1
      isplitl [Wb2]
      · iexact Wb2
      isplitl [Wb3]
      · iexact Wb3
      isplitl [Wb4]
      · iexact Wb4
      isplitl [Wb5]
      · iexact Wb5
      iexact Wb6
    isplitl [Pa0 Pa1 Pa2 Pa3 Pa4 Pa5 Pa6]
    · isplitl [Pa0]
      · iexact Pa0
      isplitl [Pa1]
      · iexact Pa1
      isplitl [Pa2]
      · iexact Pa2
      isplitl [Pa3]
      · iexact Pa3
      isplitl [Pa4]
      · iexact Pa4
      isplitl [Pa5]
      · iexact Pa5
      iexact Pa6
    isplitl [Pb0 Pb1 Pb2 Pb3 Pb4 Pb5 Pb6]
    · isplitl [Pb0]
      · iexact Pb0
      isplitl [Pb1]
      · iexact Pb1
      isplitl [Pb2]
      · iexact Pb2
      isplitl [Pb3]
      · iexact Pb3
      isplitl [Pb4]
      · iexact Pb4
      isplitl [Pb5]
      · iexact Pb5
      iexact Pb6
    isplitl [HQ]
    · iexact HQ
    iexact HSc
  isplitl [Hx Hrw Hi Hw Hh]
  · isplitl [Hx]
    · iexact Hx
    isplitl [Hrw]
    · iexact Hrw
    isplitl [Hi]
    · iexact Hi
    isplitl [Hw]
    · iexact Hw
    iexact Hh
  iexact Ho

end Cert.KernelIdealProof
-- ==== Proof.Launch.lean ====
/-
  The launch: the ghost state dealt to the devices, the credits each starts with, the body's obligation, and the run of
  the whole program from any memory over any float interpretation.
-/
module

public import proofs.«01_k».proof.Proof.Body
public import Idealize.ShloMosaic.Lib.Ring
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## Sums over the cells -/

theorem ch_split (Φ : Ch → sProp 𝕄) : bigSep Finset.univ Φ = iprop(all7 (fun j => Φ (false, j)) ∗ all7 (fun j => Φ (true, j))) := by
  rw [bigSep_univ_prod Φ, bigSep_univ_eq_bigSepL [false, true] (by decide) (by decide)]
  simp only [bigSepL_cons_cons, bigSepL_singleton]
  rfl
theorem pr_split (Φ : Bool × Ch → sProp 𝕄) :
    bigSep Finset.univ Φ = iprop((bigSep Finset.univ fun ch => Φ (false, ch)) ∗ bigSep Finset.univ fun ch => Φ (true, ch)) := by
  rw [bigSep_univ_prod Φ, bigSep_univ_eq_bigSepL [false, true] (by decide) (by decide)]
  simp only [bigSepL_cons_cons, bigSepL_singleton]
  rfl
theorem cix_split (Φ : Cix → sProp 𝕄) :
    bigSep Finset.univ Φ = iprop(Φ none ∗ (bigSep Finset.univ fun ch => Φ (some (false, ch))) ∗ bigSep Finset.univ fun ch => Φ (some (true, ch))) := by
  rw [bigSep_univ_at Φ none, show (Finset.univ.erase (none : Cix)) = Finset.univ.map Function.Embedding.some from by decide, bigSep_map]
  rw [pr_split]
  rfl

/-! ## The body's obligation -/

/-- The tokens of the duties device `c` pays: a unit to each other device's barrier, its copies' two cells each. -/
def payToks (c : Dev nD) : sProp 𝕄 :=
  iprop((bigSep Finset.univ fun s : Fin 7 => dutyTok ER (barCell (fwd s c)) 0 (opp s))
    ∗ (bigSep Finset.univ fun ch : Ch => dutyTok ER (sndCell c ch) 0 0)
    ∗ bigSep Finset.univ fun ch : Ch => dutyTok ER (rcvCell (fwd ch.2 c) ch) 0 0)
def linear (c : Dev nD) : sProp 𝕄 :=
  iprop((bigSep Finset.univ fun k : Cix => atPos ER (kcell (c, k)) 0 ∅ 0) ∗ payToks c)
def credits (c : Dev nD) : sProp 𝕄 :=
  iprop(cred (tallyAt (barCell c) () 7) ∗ bigSep Finset.univ fun ch : Ch => cred (tallyAt (rcvCell c ch) () (Nof ch.1)))

def start (c : Dev nD) : sProp 𝕄 := iprop((∃ K, records m ρ K ∗ linear c) ∗ credits c ∗ levAts L lv)
/-- The four scratch buffers, at some contents. -/
def scratch (c : Dev nD) : sProp 𝕄 := iprop((∃ f, own c cc0_scratch0 f) ∗ (∃ f, own c cc0_scratch1 f) ∗ (∃ f, own c cc0_scratch2 f) ∗ ∃ f, own c cc0_scratch3 f)
def Φ₀ (c : Dev nD) : sProp 𝕄 := iprop(start m ρ c ∗ scratch c)
/-- After the body every own semaphore and the barrier are at zero again. -/
def Φ₁ (c : Dev nD) : sProp 𝕄 := iprop(scratch c ∗ Pipeline.ownSems0 osem c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xStg m ρ c
    | ⟨1, _⟩ => rStg m ρ c
    | ⟨2, _⟩ => iStg m ρ c
    | ⟨3, _⟩ => wStg m ρ c
    | ⟨4, _⟩ => hStg m ρ c
    | ⟨5, _⟩ => outAt m ρ c
  Φ t := match t with
    | ⟨0, _⟩ => Φ₀ m ρ c
    | ⟨_ + 1, _⟩ => Φ₁ c
  q _ := fullShare
  owed t := match t with
    | ⟨0, _⟩ => due c 21
    | ⟨_ + 1, _⟩ => due c 0

abbrev t₀ : Fin cfg0.N := t0_0
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The slots of a device's two arriving buffers, split and joined. -/
theorem split_Q (c : Dev nD) (f : (cc0_scratch2 : Ref sig .tc).ty.Contents (Elt F)) : own c cc0_scratch2 f ⊢ all7 (fun j => iprop(∃ f, slotQPts (F := F) c j f)) := by
  refine BI.Entails.trans (Entails.of_eq (Ring.pointsTo_blocks (ℓ := (c : Thread nD τ).loc cc0_scratch2) (fun j : Fin 7 => setQ j) slotQ_disj slotQ_cover f)) (bigSep_mono fun j _ => ?_)
  exact show slotQPts (F := F) c j f ⊢ iprop(∃ f, slotQPts (F := F) c j f) from by iintro H; iexists f; iexact H
theorem split_S (c : Dev nD) (f : (cc0_scratch3 : Ref sig .tc).ty.Contents (Elt F)) : own c cc0_scratch3 f ⊢ all7 (fun j => iprop(∃ f, slotSPts (F := F) c j f)) := by
  refine BI.Entails.trans (Entails.of_eq (Ring.pointsTo_blocks (ℓ := (c : Thread nD τ).loc cc0_scratch3) (fun j : Fin 7 => setS j) slotS_disj slotS_cover f)) (bigSep_mono fun j _ => ?_)
  exact show slotSPts (F := F) c j f ⊢ iprop(∃ f, slotSPts (F := F) c j f) from by iintro H; iexists f; iexact H
theorem join_Q (c : Dev nD) (f : (cc0_scratch2 : Ref sig .tc).ty.Contents (Elt F)) : all7 (fun j => slotQPts (F := F) c j f) ⊢ own c cc0_scratch2 f := by
  unfold slotQPts
  exact Entails.of_eq (Ring.pointsTo_blocks (ℓ := (c : Thread nD τ).loc cc0_scratch2) (fun j : Fin 7 => setQ j) slotQ_disj slotQ_cover f).symm
theorem join_S (c : Dev nD) (f : (cc0_scratch3 : Ref sig .tc).ty.Contents (Elt F)) : all7 (fun j => slotSPts (F := F) c j f) ⊢ own c cc0_scratch3 f := by
  unfold slotSPts
  exact Entails.of_eq (Ring.pointsTo_blocks (ℓ := (c : Thread nD τ).loc cc0_scratch3) (fun j : Fin 7 => setS j) slotS_disj slotS_cover f).symm

def oppE : Fin 7 ≃ Fin 7 := ⟨opp, opp, opp_opp, opp_opp⟩

/-- What a device is dealt, in the order the body takes it. -/
theorem body_start (c : Dev nD) :
    iprop(linear (F := F) c ∗ credits c ∗ levAts L lv ∗ (∃ f, own c cc0_scratch2 f) ∗ ∃ f, own c cc0_scratch3 f) ⊢ bodyStart c := by
  unfold linear payToks credits bodyStart barRes sigRes copyRes rcvRes
  rw [cix_split]
  simp only [ch_split, bigSep_sep']
  iintro ⟨⟨⟨HaB, ⟨HaS0, HaS1⟩, HaR0, HaR1⟩, HtB, ⟨HtS0, HtS1⟩, HtR0, HtR1⟩, ⟨HcB, HcR0, HcR1⟩, Hlev, ⟨%f2, H2⟩, %f3, H3⟩
  ihave H2 := (split_Q c f2) $$ H2
  ihave H3 := (split_S c f3) $$ H3
  ihave H2 := (Entails.of_eq (bigSep_univ_equiv oppE (fun j => iprop(∃ f, slotQPts (F := F) c j f)))) $$ H2
  ihave H3 := (Entails.of_eq (bigSep_univ_equiv oppE (fun j => iprop(∃ f, slotSPts (F := F) c j f)))) $$ H3
  isplitl [Hlev]; · iexact Hlev
  isplitl [HaB HcB]
  · isplitl [HaB]; · iexact HaB
    iexact HcB
  isplitl [HtB H2 H3]
  · isplitl [HtB]; · iexact HtB
    isplitl [H2]; · iexact H2
    iexact H3
  isplitl [HtS0 HtR0]
  · isplitl [HtS0]; · iexact HtS0
    iexact HtR0
  isplitl [HtS1 HtR1]
  · isplitl [HtS1]; · iexact HtS1
    iexact HtR1
  isplitl [HaR0 HcR0]
  · isplitl [HaR0]; · iexact HaR0
    iexact HcR0
  isplitl [HaR1 HcR1]
  · isplitl [HaR1]; · iexact HaR1
    iexact HcR1
  isplitl [HaS0]; · iexact HaS0
  iexact HaS1

theorem body_end (c : Dev nD) : bodyEnd m ρ c ⊢ Φ₁ c := by
  unfold bodyEnd Φ₁ scratch Pipeline.ownSems0
  rw [pr_split]
  simp only [ch_split]
  iintro ⟨HB, ⟨HR0, HR1⟩, ⟨HS0, HS1⟩, HQ, HSl, H0, H1⟩
  ihave HQ := (join_Q c (landQ m ρ c)) $$ HQ
  ihave HSl := (join_S c (landS m ρ c)) $$ HSl
  isplitl [HQ HSl H0 H1]
  · isplitl [H0]; · iexists _; iexact H0
    isplitl [H1]; · iexists _; iexact H1
    isplitl [HQ]; · iexists _; iexact HQ
    iexists _; iexact HSl
  isplitr [HB]
  · isplitl [HS0 HS1]
    · isplitl [HS0]; · iexact HS0
      iexact HS1
    isplitl [HR0]; · iexact HR0
    iexact HR1
  iexact HB

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))
def bodyPost (c : Dev nD) : sProp 𝕄 :=
  iprop(Φ₁ c ∗ (dats m ρ 0 c).owesAt () t₀.succ ∗ stg c cc0_stg0_0 (xStg m ρ c) ∗ stg c cc0_stg1_0 (rStg m ρ c) ∗ stg c cc0_stg2_0 (iStg m ρ c)
    ∗ stg c cc0_stg3_0 (wStg m ρ c) ∗ stg c cc0_stg4_0 (hStg m ρ c) ∗ stg c cc0_stg5_0 (outAt m ρ c))

theorem fetch_in (w : Fin 6) (hw : w ≠ 5) : (cfg0.win w).fetch t₀ = true := by fin_cases w <;> first | rfl | exact absurd rfl hw

theorem sound_body (c : Dev nD) : bodyPre m ρ c ⊢ wpc c (onArgs (cc0_body (F := F))) (fun _ => bodyPost m ρ c) := by
  unfold bodyPre Φ₀ start scratch
  iintro ⟨⟨⟨⟨%K, #Hrec, Hlin⟩, Hcr, #Hlev⟩, ⟨%fq, Hq⟩, ⟨%fs, Hs⟩, H2, H3⟩, Ho, ⟨%d0, %g0, %h0, Hx⟩, ⟨%d1, %g1, %h1, Hr⟩, ⟨%d2, %g2, %h2, Hi⟩, ⟨%d3, %g3, %h3, Hw⟩, ⟨%d4, %g4, %h4, Hh⟩, ⟨%d5, %g5, %h5, Hout⟩⟩
  have e0 : g0 = xStg m ρ c := by rw [h0]; unfold Dat.before; rw [if_pos (fetch_in 0 (by decide))]; rfl
  have e1 : g1 = rStg m ρ c := by rw [h1]; unfold Dat.before; rw [if_pos (fetch_in 1 (by decide))]; rfl
  have e2 : g2 = iStg m ρ c := by rw [h2]; unfold Dat.before; rw [if_pos (fetch_in 2 (by decide))]; rfl
  have e3 : g3 = wStg m ρ c := by rw [h3]; unfold Dat.before; rw [if_pos (fetch_in 3 (by decide))]; rfl
  have e4 : g4 = hStg m ρ c := by rw [h4]; unfold Dat.before; rw [if_pos (fetch_in 4 (by decide))]; rfl
  subst e0 e1 e2 e3 e4
  unfold Dat.owesAt Pipeline.owesWithin
  icases Ho with ⟨%W, %hW, HO⟩
  rw [show (dats m ρ 0 c).owed t₀.castSucc = due c 21 from rfl]
  ihave Hst := (body_start (F := F) c) $$ [Hlin Hcr H2 H3]
  · isplitl [Hlin]; · iexact Hlin
    isplitl [Hcr]; · iexact Hcr
    isplitr; · iexact Hlev
    isplitl [H2]; · iexact H2
    iexact H3
  iapply (body_run m ρ K c fq fs g5) $$ Hrec [HO] Hst [Hx Hr Hi Hw Hh] Hout Hq Hs
  · unfold ow; iexists W; iexact HO
  · unfold staged
    isplitl [Hx]; · iexact Hx
    isplitl [Hr]; · iexact Hr
    isplitl [Hi]; · iexact Hi
    isplitl [Hw]; · iexact Hw
    iexact Hh
  unfold ow staged
  iintro ⟨⟨%W', HO⟩, Hend, ⟨Hx, Hr, Hi, Hw, Hh⟩, Hout⟩
  ihave Hend := (body_end m ρ c) $$ Hend
  unfold bodyPost Dat.owesAt Pipeline.owesWithin
  rw [show (dats m ρ 0 c).owed t₀.succ = due c 0 from rfl]
  isplitl [Hend]; · iexact Hend
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [Hw]
  · iexists _; isplitr; · (ipureintro; rfl)
    iexact Hw
  isplitl [Hh]
  · iexists _; isplitr; · (ipureintro; rfl)
    iexact Hh
  iexists _; isplitr; · (ipureintro; rfl)
  iexact Hout

set_option maxRecDepth 20000 in
theorem body_obligation (c : Dev nD) : BodyObligation (dats (F := F) m ρ 0 c) (defs₀ (F := F)) 𝒱₀ () Set.univ := fun t => by
  rw [show t = t₀ from fin_N0 t]
  rw [bigSep_W, bigSep_W]
  simp only [owns_whole_eq]
  show bodyPre m ρ c ⊢ wp frame (wpE (defs₀ (F := F)) 𝒱₀ (c : Thread nD τ) none) Set.univ (onArgs (cc0_body (F := F))) (fun _ => bodyPost m ρ c)
  exact sound_body m ρ c

/-! ## The launch -/

theorem ownSemFacts : Pipeline.OwnSemFacts cfg0.spec osem := by decide

theorem share_eq (c : Dev nD) (w : Fin cfg0.W) : (dats m ρ 0 c).share w = fullShare := by unfold Dat.share; split <;> rfl

theorem csem_inj : Function.Injective csem := by
  intro a b h
  rcases a with _ | ⟨_ | _, a⟩ <;> rcases b with _ | ⟨_ | _, b⟩
  · rfl
  · cases h
  · cases h
  · cases h
  · have e : a = b := sndS_inj (SemLoc.dma.inj h)
    subst e; rfl
  · exact absurd (SemLoc.dma.inj h) (sndS_ne_rcvS a b)
  · cases h
  · exact absurd (SemLoc.dma.inj h).symm (sndS_ne_rcvS b a)
  · have e : a = b := rcvS_inj (SemLoc.dma.inj h)
    subst e; rfl

theorem kcell_inj : Function.Injective kcell := by
  rintro ⟨c, k⟩ ⟨c', k'⟩ h
  have h1 : c = c' := congrArg (fun g : GSem nD τ sig => g.1.1) h
  have h2 : k = k' := csem_inj (congrArg Prod.snd h)
  subst h1 h2; rfl

def allCells : Finset (GSem nD τ sig) := Finset.univ.map ⟨kcell, kcell_inj⟩
abbrev tokOf (x : (Dev nD × Cix) × Fin 7) : GSem nD τ sig × ℕ × Fin 7 := (kcell x.1, 0, x.2)
theorem tokOf_inj : Function.Injective tokOf := by
  rintro ⟨a, d⟩ ⟨b, e⟩ h
  have h1 : a = b := kcell_inj (congrArg Prod.fst h)
  have h2 : d = e := congrArg (fun x : GSem nD τ sig × ℕ × Fin 7 => x.2.2) h
  subst h1 h2; rfl
def allToks : Finset (GSem nD τ sig × ℕ × Fin 7) := Finset.univ.map ⟨tokOf, tokOf_inj⟩

def u₀ : UU := (initOf (Pipeline.cells cfgs cellOf_inj) (Pipeline.launchToks cfgs cellOf_inj), initOf allCells allToks)

/-- The duty tokens of device `c`'s own cells. -/
def toks (c : Dev nD) : sProp 𝕄 := bigSep Finset.univ fun k : Cix => bigSep Finset.univ fun d : Fin 7 => dutyTok ER (kcell (c, k)) 0 d

def G (c : Dev nD) : sProp 𝕄 :=
  iprop((bigSep Finset.univ fun k : Cix => roundState ER (sched m ρ) (kcell (c, k)) 0)
    ∗ (bigSep Finset.univ fun k : Cix => iprop(atPos ER (kcell (c, k)) 0 ∅ 0 ∗ reached ER (kcell (c, k)) 0)) ∗ toks c)
def G' (c : Dev nD) : sProp 𝕄 := iprop(∃ K, records m ρ K ∗ linear c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : Cix => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod, bigSep_univ_prod]; rfl
  iintro HX
  imod (Rounds.fund ER (sched m ρ) allCells allToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cix => semVal (kcell (c, k)) 0 : sProp 𝕄) := by
  rw [unscopedSems0_eq, cix_split]
  unfold Pipeline.ownSems0
  rw [pr_split]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cix => semVal (kcell (c, k)) 0) ∗ bigSep Finset.univ fun k : Cix => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The places of the duties' owners and of their payers. -/
def barE : Dev nD × Fin 7 ≃ Dev nD × Fin 7 :=
  ⟨fun x => (fwd x.2 x.1, opp x.2), fun x => (fwd x.2 x.1, opp x.2),
    fun x => Prod.ext (bwd_fwd x.2 x.1) (opp_opp x.2), fun x => Prod.ext (bwd_fwd x.2 x.1) (opp_opp x.2)⟩
def rcvE : Dev nD × Ch ≃ Dev nD × Ch :=
  ⟨fun x => (fwd x.2.2 x.1, x.2), fun x => (bwd x.2.2 x.1, x.2), fun x => Prod.ext (bwd_fwd x.2.2 x.1) rfl, fun x => Prod.ext (fwd_bwd x.2.2 x.1) rfl⟩

theorem one_tok (g : GSem nD τ sig) : (bigSep Finset.univ fun d : Fin 7 => (dutyTok ER g 0 d : sProp 𝕄)) ⊢ dutyTok ER g 0 0 :=
  bigSep_elim (Finset.mem_univ (0 : Fin 7))

theorem one_toks (cell : Dev nD → Ch → GSem nD τ sig) :
    (bigSep Finset.univ fun c : Dev nD => bigSep Finset.univ fun ch : Ch => bigSep Finset.univ fun d : Fin 7 => (dutyTok ER (cell c ch) 0 d : sProp 𝕄))
      ⊢ bigSep Finset.univ fun c : Dev nD => bigSep Finset.univ fun ch : Ch => dutyTok ER (cell c ch) 0 0 :=
  bigSep_mono fun c _ => bigSep_mono fun ch _ => one_tok (cell c ch)

/-- The tokens dealt to the duties' payers. -/
theorem toks_around : (bigSep Finset.univ fun c : Dev nD => (toks c : sProp 𝕄)) ⊢ bigSep Finset.univ fun c : Dev nD => payToks c := by
  unfold toks payToks
  simp only [cix_split, bigSep_sep']
  rw [← bigSep_univ_prod (fun x : Dev nD × Fin 7 => (dutyTok ER (kcell (x.1, none)) 0 x.2 : sProp 𝕄)),
    bigSep_univ_equiv barE (fun x : Dev nD × Fin 7 => (dutyTok ER (kcell (x.1, none)) 0 x.2 : sProp 𝕄)),
    ← bigSep_univ_prod (fun x : Dev nD × Fin 7 => (dutyTok ER (barCell (fwd x.2 x.1)) 0 (opp x.2) : sProp 𝕄)),
    ← bigSep_univ_prod (fun x : Dev nD × Ch => (dutyTok ER (rcvCell (fwd x.2.2 x.1) x.2) 0 0 : sProp 𝕄))]
  iintro ⟨HB, HS, HR⟩
  isplitl [HB]; · iexact HB
  isplitl [HS]
  · iapply (one_toks (F := F) fun c ch => kcell (c, some (false, ch))); iexact HS
  ihave HR := (one_toks (F := F) fun c ch => kcell (c, some (true, ch))) $$ HR
  ihave HR := (Entails.of_eq (bigSep_univ_prod (fun x : Dev nD × Ch => (dutyTok ER (kcell (x.1, some (true, x.2))) 0 0 : sProp 𝕄))).symm) $$ HR
  ihave HR := (Entails.of_eq (bigSep_univ_equiv rcvE (fun x : Dev nD × Ch => (dutyTok ER (kcell (x.1, some (true, x.2))) 0 0 : sProp 𝕄)))) $$ HR
  iexact HR

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Cix => iprop(∃ κ : ℕ, cellInv ER (sched m ρ) κ (kcell ck))),
    bigSep_congr (s := Finset.univ) (fun (c : Dev nD) _ => bigSep_sep' Finset.univ (fun k : Cix => (atPos ER (kcell (c, k)) 0 ∅ 0 : sProp 𝕄)) (fun k => reached ER (kcell (c, k)) 0)),
    bigSep_sep', ← bigSep_univ_prod (fun ck : Dev nD × Cix => (reached ER (kcell ck) 0 : sProp 𝕄))]
  iintro ⟨HI, ⟨Hat, #HR⟩, Htok⟩
  ihave HK := (BI.bigSep_exists_pi Finset.univ (fun (ck : Dev nD × Cix) (κ : ℕ) => (cellInv ER (sched m ρ) κ (kcell ck) : sProp 𝕄))) $$ HI
  icases HK with ⟨%K, #HI⟩
  ihave Htk := (toks_around (F := F)) $$ Htok
  iapply (BI.bigSep_with_persistent (R := records m ρ K) (Φ := fun c => linear c) fun c _ => show iprop(records m ρ K ∗ linear c) ⊢ G' m ρ c from by
    unfold G'; iintro H; iexists K; iexact H)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem due_sum (c : Dev nD) (g : GSem nD τ sig) (n : ℕ) : due c n g () = ∑ i ∈ Finset.range n, if g = payCell c i then payAmt i else 0 := by
  induction n with
  | zero => rfl
  | succ n ih =>
    rw [Finset.sum_range_succ, ← ih]
    show (due c n + tallyAt (payCell c n) () (payAmt n)) g () = _
    rw [Pi.add_apply, Finsupp.add_apply, tallyAt_apply]
    by_cases h : g = payCell c n
    · rw [if_pos ⟨h, rfl⟩, if_pos h]
    · rw [if_neg (fun h' => h h'.1), if_neg h]

/-- The step and the copy of the `i`-th payment from the last. -/
def stepOf (i : ℕ) : Fin 7 := if i < 14 then ⟨(13 - i) / 2 % 7, Nat.mod_lt _ (by decide)⟩ else ⟨(20 - i) % 7, Nat.mod_lt _ (by decide)⟩
def ixOf (i : ℕ) : Cix := if i < 14 then some (true, (i % 2 == 0, ⟨(13 - i) / 2 % 7, Nat.mod_lt _ (by decide)⟩)) else none

theorem payCell_eq (d : Dev nD) (i : ℕ) : payCell d i = kcell (fwd (stepOf i) d, ixOf i) := by
  unfold payCell stepOf ixOf; split <;> rfl

/-- What all devices together owe a cell of device `c`. -/
theorem owed_all (c : Dev nD) (k : Cix) : ∑ d : Dev nD, due d 21 (kcell (c, k)) () = ∑ i ∈ Finset.range 21, if k = ixOf i then payAmt i else 0 := by
  simp only [due_sum]
  rw [Finset.sum_comm]
  refine Finset.sum_congr rfl fun i _ => ?_
  have h (d : Dev nD) : (if kcell (c, k) = payCell d i then payAmt i else 0) = if d = bwd (stepOf i) c then (if k = ixOf i then payAmt i else 0) else 0 := by
    rw [payCell_eq]
    by_cases hd : d = bwd (stepOf i) c
    · subst hd
      rw [fwd_bwd, if_pos rfl]
      by_cases hk : k = ixOf i
      · rw [if_pos (by rw [hk]), if_pos hk]
      · rw [if_neg (fun h => hk (congrArg Prod.snd (kcell_inj h))), if_neg hk]
    · rw [if_neg hd, if_neg (fun h => hd (by
        have := congrArg Prod.fst (kcell_inj h)
        show d = _
        rw [show c = fwd (stepOf i) d from this, bwd_fwd]))]
  simp only [h]
  rw [Finset.sum_ite_eq' Finset.univ (bwd (stepOf i) c), if_pos (Finset.mem_univ _)]

theorem launch_bar (c : Dev nD) :
    tallyOn (barCell c) (launchCredit (Pipeline.owing fun d => due d 21) 0 (barCell c)) = (tallyAt (barCell c) () 7 : CellTallies nD τ sig Unit) := by
  unfold tallyAt; refine congrArg _ (Finsupp.ext fun u => ?_); cases u
  rw [Pipeline.launchCredit_owing, Finsupp.single_eq_same]
  exact (owed_all c none).trans (by decide)
theorem launch_rcv (c : Dev nD) (ch : Ch) :
    tallyOn (rcvCell c ch) (launchCredit (Pipeline.owing fun d => due d 21) 0 (rcvCell c ch)) = (tallyAt (rcvCell c ch) () (Nof ch.1) : CellTallies nD τ sig Unit) := by
  unfold tallyAt; refine congrArg _ (Finsupp.ext fun u => ?_); cases u
  rw [Pipeline.launchCredit_owing, Finsupp.single_eq_same]
  exact (owed_all c (some (true, ch))).trans (by revert ch; decide)

def rcvEmb : Ch ↪ SemLoc sig := ⟨fun ch => .dma (rcvS ch), fun a b h => rcvS_inj (SemLoc.dma.inj h)⟩

theorem creds (c : Dev nD) : (Pipeline.launchCred (fun d => due d 21) c : sProp 𝕄) ⊢ credits c := by
  unfold Pipeline.launchCred credits
  rw [bigSep_univ_at _ (SemLoc.reg barS), launch_bar]
  refine sep_mono_right ?_
  refine BI.Entails.trans (bigSep_subset (t := Finset.univ.map rcvEmb) (fun x hx => ?_)) ?_
  · obtain ⟨ch, -, rfl⟩ := Finset.mem_map.mp hx
    exact Finset.mem_erase.mpr ⟨(fun h => nomatch h), Finset.mem_univ _⟩
  · rw [bigSep_map]
    exact bigSep_mono fun ch _ => by rw [← launch_rcv]; exact BI.Entails.refl _

/-! ### The run -/

theorem start_intro (c : Dev nD) :
    iprop(Pipeline.unscopedRestP Pipeline.Prefetch.none cfg0.spec c (fun b => m ((c : Thread nD τ).loc b)) ∗ levAts L lv
        ∗ Pipeline.launchCred (fun d => due d 21) c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch
  iintro ⟨Hr, Ho, HzB⟩
  isplitl [HzB]; · iexact HzB
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_stage c _ (by fin_cases w <;> fin_cases s <;> decide) 21
    · exact mayWait_stage c _ (by fin_cases w <;> fin_cases s <;> decide) 0

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero the eight devices' program runs to its end, whatever the schedule, with every
    device's arrays at the contents computed above and every counter back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => due d 21) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdealProof
-- ==== Proof.Frames.lean ====
/-
  What the runs leave: the kernel's arguments unchanged and its result array at the contents the body stored, on every device,
  and the reference's run; the three frame claims.
-/
module

public import proofs.«01_k».proof.Proof.Launch
public import proofs.«01_k».proof.Proof.Gen.KernelIdeal.Points
public import proofs.«01_k».proof.Defs
public import proofs.«01_k».proof.Proof.Gen.Kernel
public import proofs.«01_k».proof.Proof.Gen.ReferenceIdeal
public import proofs.«01_k».proof.Proof.Gen.ReferenceIdeal.Run
public import Idealize.ShloMosaic.Lib.Quiescent
public import Idealize.ShloMosaic.Lib.Pipeline.Value

@[expose] public section

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F] [Named F]

variable (m : (ℓ : Loc nD τ sig) → Buf (Elt F) ℓ) (ρ : Dev nD → PrngReg)

/-! ## The arrays after the run -/

theorem finalA_arg0 (c : Dev nD) : finalA m ρ c (0 : Fin 6) = m ((c.tc : Thread nD τ).loc main_arg0) := (dats (F := F) m ρ 0 c).arrAt_in (0 : Fin 6) rfl _
theorem finalA_arg1 (c : Dev nD) : finalA m ρ c (1 : Fin 6) = m ((c.tc : Thread nD τ).loc main_arg1) := (dats (F := F) m ρ 0 c).arrAt_in (1 : Fin 6) rfl _
theorem finalA_arg2 (c : Dev nD) : finalA m ρ c (2 : Fin 6) = m ((c.tc : Thread nD τ).loc main_arg2) := (dats (F := F) m ρ 0 c).arrAt_in (2 : Fin 6) rfl _
theorem finalA_arg3 (c : Dev nD) : finalA m ρ c (3 : Fin 6) = m ((c.tc : Thread nD τ).loc main_arg3) := (dats (F := F) m ρ 0 c).arrAt_in (3 : Fin 6) rfl _
theorem finalA_arg4 (c : Dev nD) : finalA m ρ c (4 : Fin 6) = m ((c.tc : Thread nD τ).loc main_arg4) := (dats (F := F) m ρ 0 c).arrAt_in (4 : Fin 6) rfl _

/-- The result window is the whole array: an index of it is the same index of the array. -/
theorem out_emb (y : S256x256.Idx) : (win0_5.blk t0_0).view.emb y = y := by
  funext a
  apply Fin.ext
  exact Pipeline.Window.rect_emb_val_of_index_zero win0_5 t0_0 a (by fin_cases a <;> rfl) y

theorem out_read (f : Buf (Elt F) ((cfg0.win 5).arr.view.loc (((0 : Dev nD)).tc : Thread nD τ))) : (win0_5.blk t0_0).view.read (Elt F) f = f := by
  funext y
  rw [View.read_apply]
  exact congrArg f (out_emb y)

/-- The result array ends at the contents that the body stored. -/
theorem finalA_out (c : Dev nD) : finalA m ρ c (5 : Fin 6) = outAt m ρ c := by
  refine (dats m ρ 0 c).arrAt_eq_of_cover (5 : Fin 6) (outAt m ρ c) (fun t _ => ?_) (fun i => ⟨t0_0, flush0_5 _, ?_⟩)
  · obtain rfl := fin_N0 t
    exact (out_read (F := F) (outAt m ρ c)).symm
  · have h := View.emb_mem_set (win0_5.blk t0_0).view i
    rw [out_emb] at h
    exact h

/-! ## The frames -/

/-- The kernel's run, read at its arguments and its result. -/
theorem run_arrays : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨(h.1 c (5 : Fin 6)).trans (finalA_out m ρ c), (h.1 c (0 : Fin 6)).trans (finalA_arg0 m ρ c),
      (h.1 c (1 : Fin 6)).trans (finalA_arg1 m ρ c), (h.1 c (2 : Fin 6)).trans (finalA_arg2 m ρ c),
      (h.1 c (3 : Fin 6)).trans (finalA_arg3 m ρ c), (h.1 c (4 : Fin 6)).trans (finalA_arg4 m ρ c)⟩, h.2⟩) (run_main m ρ)

/-- The run, read at its arguments alone. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_arrays m ρ)

theorem frame_kernelIdeal : Cert.quiescent_KernelIdeal (hKernelIdeal := Cert.KernelIdeal.Gen.facts) := fun m ρ _ =>
  run_args (F := Ideal) m ρ

/-- Words, where a named constant is the word it was printed from. -/
@[reducible] def named_words : Named Bits := ⟨fun _ _ φ b => Scalar.ofBits (F := Bits) φ b⟩

/-- The kernel as printed is the same text, read on words: its table of bodies is the same, entry by entry. -/
theorem bodies_eq : @Cert.Kernel.defs₀ Bits _ Cert.Kernel.Gen.facts = @Cert.KernelIdeal.defs₀ Bits _ named_words Cert.KernelIdeal.Gen.facts := by
  unfold Cert.Kernel.defs₀ Cert.KernelIdeal.defs₀
  refine congrArg Defs.onTc (funext fun l => funext fun a => ?_)
  match l, a with
  | 0, (t, s) => rfl

theorem table_eq : @Cert.Kernel.defs Bits _ Cert.Kernel.Gen.facts = @Cert.KernelIdeal.defs Bits _ named_words Cert.KernelIdeal.Gen.facts :=
  congrArg (Pipeline.defs Cert.KernelIdeal.pcfgs) bodies_eq

theorem frame_kernel : Cert.quiescent_Kernel (hKernel := Cert.Kernel.Gen.facts) := fun m ρ _ => by
  rw [table_eq]
  letI := named_words
  exact run_args (F := Bits) m ρ

theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdealProof

end
-- ==== Proof.Spec.lean ====
/-
  The arithmetic of one token, over the extended reals: the softmax over the experts, the gate, the int8 code of an expert's
  weights; and the few laws the two programs' values are compared by. Nothing here mentions a program.
-/
module

public import Idealize.ShloMosaic.PureOps.Ideal.Laws

@[expose] public section

noncomputable section

namespace Cert.Moe

open Idealize.ShloMosaic

/-- The inner product over the 128 features. -/
def dot (x w : Fin 128 → EReal) : EReal := ∑ d, x d * w d

/-- The largest of finitely many values, taken as both programs take it: a fold of `max` from the bottom. -/
def top {n : ℕ} (s : Fin n → EReal) : EReal := Finset.univ.fold max ⊥ s

/-- The softmax of the scores `s` at expert `e`. -/
def prob (s : Fin 16 → EReal) (e : Fin 16) : EReal :=
  Ideal.div (Ideal.exp (s e - top s)) (∑ k, Ideal.exp (s k - top s))

/-- The gate of expert `e` for a token routed to the expert numbered `i`: the softmax at that expert, nothing at another. -/
def gate (i : BitVec 32) (s : Fin 16 → EReal) (e : Fin 16) : EReal :=
  Scalar.select (IntOp.cmpi .eq i (BitVec.ofNat 32 e.val)) (prob s e) 0

/-- The largest absolute value of a weight column. -/
def size (w : Fin 128 → EReal) : EReal := top fun d => max (w d) (-(w d))

/-- The factor that brings a column of largest absolute value `a` to the int8 range. -/
def factor (a : EReal) : EReal := Scalar.select (Ideal.cmp .ogt a 0) (Ideal.div 127 a) 0

/-- The rounded code of a column's weight. -/
def code (w : Fin 128 → EReal) (d : Fin 128) : EReal := Ideal.liftRound Ideal.roundHalfEven (w d * factor (size w))

/-- The weight that the code stands for, on a device that received code and scale. -/
def sent (w : Fin 128 → EReal) (d : Fin 128) : EReal := code w d * Ideal.div (size w) 127

/-! ## Finite scores -/

/-- A finite value: neither infinity. -/
def Fin' (a : EReal) : Prop := ∃ r : ℝ, a = (r : EReal)

/-- A finite sum of finite numbers is finite. -/
theorem fin_sum {ι : Type*} (s : Finset ι) (f : ι → EReal) (h : ∀ i ∈ s, Fin' (f i)) : Fin' (∑ i ∈ s, f i) := by
  classical
  induction s using Finset.induction_on with
  | empty => exact ⟨0, by simp⟩
  | insert a s ha ih =>
    obtain ⟨p, hp⟩ := h a (Finset.mem_insert_self _ _)
    obtain ⟨q, hq⟩ := ih fun i hi => h i (Finset.mem_insert_of_mem hi)
    exact ⟨p + q, by rw [Finset.sum_insert ha, hp, hq, EReal.coe_add]⟩

/-- The product of a finite row and a finite column is finite. -/
theorem fin_dot (x w : Fin 128 → EReal) (hx : ∀ d, Fin' (x d)) (hw : ∀ d, Fin' (w d)) : Fin' (dot x w) := by
  refine fin_sum _ _ fun d _ => ?_
  obtain ⟨p, hp⟩ := hx d
  obtain ⟨q, hq⟩ := hw d
  exact ⟨p * q, by rw [hp, hq, EReal.coe_mul]⟩

/-- A value whose absolute value is below the top is finite. -/
theorem fin_of_abs_lt (a : EReal) (h : max a (-a) < ⊤) : Fin' a := by
  induction a with
  | bot => simp at h
  | top => simp at h
  | coe r => exact ⟨r, rfl⟩

/-- The largest score is the supremum. -/
theorem top_eq_sup {n : ℕ} (s : Fin n → EReal) : top s = Finset.univ.sup s := rfl

/-- No score is above the largest. -/
theorem le_top_of {n : ℕ} (s : Fin n → EReal) (k : Fin n) : s k ≤ top s := by
  rw [top_eq_sup]; exact Finset.le_sup (Finset.mem_univ k)

/-- The largest of finite scores is finite. -/
theorem fin_top (s : Fin 16 → EReal) (hs : ∀ e, Fin' (s e)) : Fin' (top s) := by
  obtain ⟨e, -, he⟩ := Finset.exists_mem_eq_sup (Finset.univ : Finset (Fin 16)) ⟨0, Finset.mem_univ _⟩ s
  rw [top_eq_sup, he]; exact hs e

/-- Finite scores have a softmax: a real that is not negative. -/
theorem prob_real (s : Fin 16 → EReal) (hs : ∀ e, Fin' (s e)) (e : Fin 16) : ∃ p : ℝ, 0 ≤ p ∧ prob s e = (p : EReal) := by
  obtain ⟨b, hb⟩ := fin_top s hs
  choose r hr using hs
  have he : ∀ k, Ideal.exp (s k - top s) = ((Real.exp (r k - b) : ℝ) : EReal) := fun k => by
    rw [hb, hr k, ← EReal.coe_sub]; rfl
  have hsum : (∑ k, Ideal.exp (s k - top s)) = ((∑ k, Real.exp (r k - b) : ℝ) : EReal) := by
    rw [Finset.sum_congr rfl fun k _ => he k]
    exact (map_sum (⟨⟨Real.toEReal, EReal.coe_zero⟩, EReal.coe_add⟩ : ℝ →+ EReal) _ _).symm
  have hpos : 0 < ∑ k : Fin 16, Real.exp (r k - b) := Finset.sum_pos (fun k _ => Real.exp_pos _) ⟨0, Finset.mem_univ _⟩
  refine ⟨Real.exp (r e - b) * (∑ k, Real.exp (r k - b))⁻¹, mul_nonneg (Real.exp_pos _).le (inv_nonneg.mpr hpos.le), ?_⟩
  unfold prob
  rw [he, hsum, Ideal.div, if_neg (by exact_mod_cast hpos.ne'), EReal.coe_mul, EReal.coe_inv]

/-- With finite scores every gate is a real number that is not negative. -/
theorem gate_real (i : BitVec 32) (s : Fin 16 → EReal) (hs : ∀ e, Fin' (s e)) (e : Fin 16) :
    ∃ p : ℝ, 0 ≤ p ∧ gate i s e = (p : EReal) := by
  unfold gate Scalar.select
  split
  · exact prob_real s hs e
  · exact ⟨0, le_rfl, EReal.coe_zero.symm⟩

/-- A real gate, not negative, may be taken out of the inner product. -/
theorem dot_gate (g : EReal) (hg : ∃ p : ℝ, 0 ≤ p ∧ g = (p : EReal)) (x w : Fin 128 → EReal) :
    dot (fun d => x d * g) w = g * dot x w := by
  obtain ⟨p, hp, rfl⟩ := hg
  have key : ∀ s : Finset (Fin 128), ∑ d ∈ s, (x d * (p : EReal)) * w d = (p : EReal) * ∑ d ∈ s, x d * w d := fun s => by
    classical
    induction s using Finset.induction_on with
    | empty => simp
    | insert a s ha ih =>
      rw [Finset.sum_insert ha, Finset.sum_insert ha, ih,
        EReal.left_distrib_of_nonneg_of_ne_top (EReal.coe_nonneg.mpr hp) (EReal.coe_ne_top p), mul_comm (x a), mul_assoc]
  exact key _

/-! ## The int8 code -/

/-- Rounding keeps the range from −127 to 127. -/
theorem round_range (y : ℝ) (h1 : -127 ≤ y) (h2 : y ≤ 127) : -127 ≤ Ideal.roundHalfEven y ∧ Ideal.roundHalfEven y ≤ 127 := by
  have hlo : (-127 : ℤ) ≤ ⌊y⌋ := Int.le_floor.mpr (by exact_mod_cast h1)
  have hhi : ⌊y⌋ ≤ 127 := by exact_mod_cast (Int.floor_le y).trans h2
  have hone : ∀ h : ¬ y - ⌊y⌋ < 1 / 2, ⌊y⌋ + 1 ≤ 127 := fun h => by
    rcases lt_or_eq_of_le hhi with h' | h'
    · omega
    · exfalso; apply h; rw [h']; push_cast; linarith
  unfold Ideal.roundHalfEven
  dsimp only
  split_ifs with ha hb hc
  · exact ⟨hlo, hhi⟩
  · exact ⟨by omega, hone ha⟩
  · exact ⟨hlo, hhi⟩
  · exact ⟨by omega, hone ha⟩

/-- The code is an integer from −127 to 127, whatever the weights. -/
theorem code_int (w : Fin 128 → EReal) (d : Fin 128) : ∃ n : ℤ, -127 ≤ n ∧ n ≤ 127 ∧ code w d = ((n : ℝ) : EReal) := by
  have zero : ∀ f : EReal, f = 0 → ∃ n : ℤ, -127 ≤ n ∧ n ≤ 127 ∧ Ideal.liftRound Ideal.roundHalfEven (w d * f) = ((n : ℝ) : EReal) := by
    rintro f rfl
    rw [mul_zero]
    refine ⟨Ideal.roundHalfEven 0, (round_range 0 (by norm_num) (by norm_num)).1, (round_range 0 (by norm_num) (by norm_num)).2, rfl⟩
  have hle : max (w d) (-(w d)) ≤ size w := le_top_of (fun d => max (w d) (-(w d))) d
  unfold code factor Scalar.select
  by_cases hpos : 0 < size w
  swap
  · refine zero _ (if_neg ?_)
    simp [Ideal.cmp, hpos]
  rw [if_pos (by simp [Ideal.cmp, hpos])]
  generalize hm : size w = m at *
  induction m with
  | bot => simp at hpos
  | top => exact zero _ (by rw [Ideal.div, if_neg (by simp), EReal.inv_top, mul_zero])
  | coe a =>
    have ha : 0 < a := EReal.coe_pos.mp hpos
    obtain ⟨r, hr⟩ := fin_of_abs_lt (w d) (lt_of_le_of_lt hle (EReal.coe_lt_top a))
    rw [hr] at hle ⊢
    have h1 : r ≤ a := EReal.coe_le_coe_iff.mp ((le_max_left _ _).trans hle)
    have h2 : -r ≤ a := EReal.coe_le_coe_iff.mp ((EReal.coe_neg r ▸ le_max_right (r : EReal) (-(r : EReal))).trans hle)
    have e : (r : EReal) * Ideal.div 127 (a : EReal) = ((r * (127 * a⁻¹) : ℝ) : EReal) := by
      rw [Ideal.div, if_neg (by exact_mod_cast ha.ne'), EReal.coe_mul, EReal.coe_mul, EReal.coe_inv]; rfl
    have hi : r * (127 * a⁻¹) ≤ 127 := by
      rw [← div_eq_mul_inv, ← mul_div_assoc, div_le_iff₀ ha]; nlinarith
    have lo : -127 ≤ r * (127 * a⁻¹) := by
      rw [← div_eq_mul_inv, ← mul_div_assoc, le_div_iff₀ ha]; nlinarith
    rw [e]
    exact ⟨_, (round_range _ lo hi).1, (round_range _ lo hi).2, rfl⟩

/-- Stored as int8 and read back, the code is the same number. -/
theorem code_int8 (w : Fin 128 → EReal) (d : Fin 128) :
    (((Ideal.fptosi 8 (code w d)).toInt : ℝ) : EReal) = code w d := by
  obtain ⟨n, h1, h2, e⟩ := code_int w d
  rw [e]
  have : (Ideal.fptosi 8 ((n : ℝ) : EReal)).toInt = n := by
    unfold Ideal.fptosi
    rw [show Ideal.toIntClamped (-(2 ^ (8 - 1) : ℕ)) ((2 ^ (8 - 1) : ℕ) - 1) ((n : ℝ) : EReal) = n from by
      show max _ (min _ (if (0 : ℝ) ≤ (n : ℝ) then ⌊(n : ℝ)⌋ else ⌈(n : ℝ)⌉)) = n
      rw [Int.floor_intCast, Int.ceil_intCast, ite_self]
      norm_num
      omega]
    rw [BitVec.toInt_ofInt]
    exact Int.bmod_eq_of_le (by norm_num; omega) (by norm_num; omega)
  rw [this]

/-- The clip to the int8 range does not change the code. -/
theorem code_clip (w : Fin 128 → EReal) (d : Fin 128) :
    min (max (code w d) (-127 : EReal)) (127 : EReal) = code w d := by
  obtain ⟨n, h1, h2, e⟩ := code_int w d
  have l : (-127 : EReal) = (((-127 : ℤ) : ℝ) : EReal) := by
    rw [show (((-127 : ℤ) : ℝ)) = -(127 : ℝ) by norm_num, EReal.coe_neg]; rfl
  have u : (127 : EReal) = (((127 : ℤ) : ℝ) : EReal) := by push_cast; rfl
  rw [e, l, u, max_eq_left (by exact_mod_cast h1), min_eq_left (by exact_mod_cast h2)]

end Cert.Moe

end
-- ==== Proof.KernelTerms.lean ====
/-
  The kernel's computed values read at an index, over the extended reals: the gates, the codes and scales a device sends,
  and the product each expert contributes.
-/
module

public import proofs.«01_k».proof.Proof.Spec
public import proofs.«01_k».proof.Proof.Parts
public import Idealize.ShloMosaic.Lib.KernelVsHost
public import Idealize.ShloMosaic.Lib.MatmulPlain
public import Idealize.ShloMosaic.Lib.ValueIdx
public import Idealize.ShloMosaic.Lib.ValueLayout
public import Idealize.ShloMosaic.Lib.ValueLayoutCasts

@[expose] public section

noncomputable section

namespace Cert.KernelIdealProof

open Cert.KernelIdeal Cert.KernelIdeal.Gen
open Cert
open Idealize.ShloMosaic
open Idealize.ShloMosaic.ValueIdx

/-! ## The constants -/

/-- The float words of the program, as numbers: the start of a maximum, zero, 127. -/
theorem bits_ninf : Ideal.ofBits .f32 0xFF800000#32 = ⊥ := by simp [Ideal.ofBits, Ideal.ieee]
theorem bits_ninf16 : Ideal.ofBits .bf16 0xFF80#16 = ⊥ := by simp [Ideal.ofBits, Ideal.ieee]
theorem bits_zero16 : Ideal.ofBits .bf16 0x0000#16 = 0 := by simp [Ideal.ofBits, Ideal.ieee]
theorem bits_127 : Ideal.ofBits .bf16 0x42FE#16 = 127 := by
  have : Ideal.ofBits .bf16 0x42FE#16 = ((127 : ℝ) : EReal) := by
    simp [Ideal.ofBits, Ideal.ieee]
    rw [← EReal.coe_mul]; norm_num
  rw [this]; rfl

/-- The named constant is 1/127, and the product with it is the quotient by 127. -/
theorem inv_127 : Named.named (F := Ideal) Cert.KernelIdeal.κ "inv_127" (φ := .bf16) 0x3C01#16 = ((1 / 127 : ℝ) : EReal) :=
  IdealRules.named_const.ideal_named_scalar _ _ _ _ rfl
/-- The product with the named constant is the quotient by 127, of every extended real. -/
theorem mul_inv_127 (a : EReal) : a * Named.named (F := Ideal) Cert.KernelIdeal.κ "inv_127" (φ := .bf16) 0x3C01#16 = Ideal.div a 127 := by
  rw [inv_127]
  exact (Ideal.div_coe (by norm_num : (127 : ℝ) ≠ 0) a).symm

/-! ## Layout -/

/-- A column broadcast along the rows reads its one entry of the row. -/
theorem column_apply {a b : ℕ} {α : Type} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- One member of a stack of matrices. -/
theorem member_apply {n a b : ℕ} {α : Type} (o : ℕ) (X : (⟨3, ![n, a, b]⟩ : Shape).Idx → α)
    (h : (⟨3, ![n, a, b]⟩ : Shape).Slices ![o, 0, 0] ⟨3, ![1, a, b]⟩) (k : Fin n) (hk : k.val = o) (p : Fin a) (q : Fin b) :
    extractStridedSlice ⟨3, ![1, a, b]⟩ ![o, 0, 0] X h (ix3 (0 : Fin 1) p q) = X (ix3 k p q) :=
  extractStridedSlice_apply _ _ _ _ _ (fun ax => by
    match ax with
    | ⟨0, _⟩ => exact hk
    | ⟨1, _⟩ => exact (Nat.zero_add _).symm
    | ⟨2, _⟩ => exact (Nat.zero_add _).symm)

/-! ## The products -/

/-- Tokens times weights, into the result's shape. -/
theorem mm_apply (l : FVec Ideal S256x128 .bf16) (r : FVec Ideal S128x256 .bf16) (t h : Fin 256) :
    matmul dot_S256x128_S128x256_S256x256_1_0_0_1_n_n none l r (constant S256x256 .f32 0x00000000#32) (ix2 t h)
      = Moe.dot (fun d => l (ix2 t d)) (fun d => r (ix2 d h)) :=
  (Ideal.matmul_plain_apply none l r (constant S256x256 .f32 0x00000000#32) t h).trans
    ((congrArg (· + _) Ideal.ofBits_zero_f32).trans (zero_add _))

/-- The tokens weighted by a column of the gates. -/
def gated (x : FVec Ideal S256x128 .bf16) (g : FVec Ideal S256x16 .bf16) (a : ℕ) (ha : S256x16.Slices ![0, a] S256x1) :
    FVec Ideal S256x128 .bf16 :=
  mulf x (broadcastTo S256x128 (extractStridedSlice S256x1 ![0, a] g ha) broadcasts_S256x1_S256x128)

/-- A token row times its gate, at an index. -/
theorem gated_apply (x : FVec Ideal S256x128 .bf16) (g : FVec Ideal S256x16 .bf16) (a : ℕ) (ha : S256x16.Slices ![0, a] S256x1)
    (k : Fin 16) (hk : k.val = a) (t : Fin 256) (d : Fin 128) : gated x g a ha (ix2 t d) = x (ix2 t d) * g (ix2 t k) := by
  refine congrArg (x (ix2 t d) * ·) ((column_apply _ _ t d).trans ?_)
  exact slice2_axis1_apply a g ha t (0 : Fin 1) k (by rw [hk]; rfl)

/-- An expert's weights from its code and its scale: the rows from `o`, the scale's row `r`. -/
def restored (q : Vec Ideal S1x256x256 .i8) (s : Vec Ideal S1x2x256 .f32) (o r : ℕ) (ho : S256x256.Slices ![o, 0] S128x256)
    (hr : S2x256.Slices ![r, 0] S1x256) : FVec Ideal S128x256 .bf16 :=
  mulf (sitofp .bf16 (extractStridedSlice S128x256 ![o, 0] (shapeCast S256x256 q shapeCasts_S1x256x256_S256x256 : IVec S256x256 8) ho : IVec S128x256 8))
    (broadcastTo S128x256 (truncf .bf16 (extractStridedSlice S1x256 ![r, 0] (shapeCast S2x256 s shapeCasts_S1x2x256_S2x256 : FVec Ideal S2x256 .f32) hr : FVec Ideal S1x256 .f32)
      bitsLt_bf16_f32 : FVec Ideal S1x256 .bf16) broadcasts_S1x256_S128x256)

/-- The weights read back from the codes and their scales, at an index. -/
theorem restored_apply (q : Vec Ideal S1x256x256 .i8) (s : Vec Ideal S1x2x256 .f32) (o r : ℕ) (ho : S256x256.Slices ![o, 0] S128x256)
    (hr : S2x256.Slices ![r, 0] S1x256) (d : Fin 128) (h : Fin 256) (p : Fin 256) (hp : p.val = o + d.val) (u : Fin 2) (hu : u.val = r) :
    restored q s o r ho hr (ix2 d h)
      = (((q (ix3 (0 : Fin 1) p h) : BitVec 8).toInt : ℝ) : EReal) * s (ix3 (0 : Fin 1) u h) := by
  refine congrArg₂ (· * ·) ?_ ?_
  · refine congrArg (fun b : BitVec 8 => ((b.toInt : ℝ) : EReal)) ?_
    exact (slice2_axis0_apply o _ ho d h p hp).trans (shapeCast_1ab_ab_apply q _ p h)
  · refine (broadcastTo_1b_ab_apply _ _ d h).trans ?_
    exact (slice2_axis0_apply r _ hr (0 : Fin 1) h u (by rw [hu]; rfl)).trans (shapeCast_1ab_ab_apply s _ u h)

/-- What one received expert adds. -/
def half (x : FVec Ideal S256x128 .bf16) (g : FVec Ideal S256x16 .bf16) (q : Vec Ideal S1x256x256 .i8) (s : Vec Ideal S1x2x256 .f32)
    (a o r : ℕ) (ha : S256x16.Slices ![0, a] S256x1) (ho : S256x256.Slices ![o, 0] S128x256) (hr : S2x256.Slices ![r, 0] S1x256) :
    FVec Ideal S256x256 .f32 :=
  matmul dot_S256x128_S128x256_S256x256_1_0_0_1_n_n none (gated x g a ha) (restored q s o r ho hr) (constant S256x256 .f32 0x00000000#32)

/-- What the two experts of a slot add to the running sum, the gates' columns being `a` and `a + 1`. -/
def slot (x : FVec Ideal S256x128 .bf16) (g : FVec Ideal S256x16 .bf16) (q : Vec Ideal S1x256x256 .i8) (s : Vec Ideal S1x2x256 .f32)
    (a : ℕ) (ha : S256x16.Slices ![0, a] S256x1) (ha' : S256x16.Slices ![0, a + 1] S256x1) (acc : FVec Ideal S256x256 .f32) : FVec Ideal S256x256 .f32 :=
  addf (addf acc (half x g q s a 0 0 ha slices_S256x256_o0_0_S128x256 slices_S2x256_o0_0_S1x256))
    (half x g q s (a + 1) 128 1 ha' slices_S256x256_o128_0_S128x256 slices_S2x256_o1_0_S1x256)

/-- What one landed message adds, at an index: the products with its two restored experts. -/
theorem slot_apply (x : FVec Ideal S256x128 .bf16) (g : FVec Ideal S256x16 .bf16) (q : Vec Ideal S1x256x256 .i8) (s : Vec Ideal S1x2x256 .f32)
    (a : ℕ) (ha : S256x16.Slices ![0, a] S256x1) (ha' : S256x16.Slices ![0, a + 1] S256x1) (acc : FVec Ideal S256x256 .f32)
    (k k' : Fin 16) (hk : k.val = a) (hk' : k'.val = a + 1) (t h : Fin 256) :
    slot x g q s a ha ha' acc (ix2 t h)
      = acc (ix2 t h)
        + Moe.dot (fun d => x (ix2 t d) * g (ix2 t k))
            (fun d => (((q (ix3 (0 : Fin 1) (⟨d.val, by omega⟩ : Fin 256) h) : BitVec 8).toInt : ℝ) : EReal) * s (ix3 (0 : Fin 1) (0 : Fin 2) h))
        + Moe.dot (fun d => x (ix2 t d) * g (ix2 t k'))
            (fun d => (((q (ix3 (0 : Fin 1) (⟨128 + d.val, by omega⟩ : Fin 256) h) : BitVec 8).toInt : ℝ) : EReal) * s (ix3 (0 : Fin 1) (1 : Fin 2) h)) := by
  refine congrArg₂ (· + ·) (congrArg (acc (ix2 t h) + ·) ((mm_apply _ _ t h).trans ?_)) ((mm_apply _ _ t h).trans ?_)
  · refine congrArg₂ Moe.dot (funext fun d => gated_apply x g a ha k hk t d) (funext fun d => ?_)
    exact restored_apply q s 0 0 _ _ d h _ (Nat.zero_add _).symm 0 rfl
  · refine congrArg₂ Moe.dot (funext fun d => gated_apply x g (a + 1) ha' k' hk' t d) (funext fun d => ?_)
    exact restored_apply q s 128 1 _ _ d h _ rfl 1 rfl

/-! ## The gates -/

/-- The gates before the rotation: column `e` belongs to expert `e`. -/
def scoresOf (x : FVec Ideal S256x128 .bf16) (R : FVec Ideal S128x16 .bf16) : FVec Ideal S256x16 .f32 :=
  matmul dot_S256x128_S128x16_S256x16_1_0_0_1_n_n none x (shapeCast S128x16 R shapeCasts_S128x16_S128x16) (constant S256x16 .f32 0x00000000#32)

/-- The scores at an index. -/
theorem scoresOf_apply (x : FVec Ideal S256x128 .bf16) (R : FVec Ideal S128x16 .bf16) (t : Fin 256) (e : Fin 16) :
    scoresOf x R (ix2 t e) = Moe.dot (fun d => x (ix2 t d)) (fun d => R (ix2 d e)) := by
  unfold scoresOf
  rw [shapeCast_self]
  exact (Ideal.matmul_plain_apply none x R (constant S256x16 .f32 0x00000000#32) t e).trans
    ((congrArg (· + _) Ideal.ofBits_zero_f32).trans (zero_add _))

/-- The exponentials of the scores less the largest of their row. -/
def expOf (s : FVec Ideal S256x16 .f32) : FVec Ideal S256x16 .f32 :=
  exp (subf s (broadcastTo S256x16 (shapeCast S256x1 (multiReduction .maximumf [1] S256 s 0xFF800000#32 reduces_S256x16_S256 (.inl rfl) rfl : FVec Ideal S256 .f32)
    shapeCasts_S256_S256x1 : FVec Ideal S256x1 .f32) broadcasts_S256x1_S256x16))

/-- The exponentials at an index. -/
theorem expOf_apply (s : FVec Ideal S256x16 .f32) (t : Fin 256) (e : Fin 16) :
    expOf s (ix2 t e) = Ideal.exp (s (ix2 t e) - Moe.top fun k => s (ix2 t k)) := by
  refine congrArg (fun b => Ideal.exp (s (ix2 t e) - b)) ((column_apply _ _ t e).trans ((shapeCast_a_a1_apply _ _ t _).trans ?_))
  refine (Ideal.multiReduction_maximumf_single s _ _ _ _ (ix1 t)).trans ?_
  unfold Moe.top
  refine congrArg₂ (fun b f => Finset.fold max b f Finset.univ) bits_ninf (funext fun k => congrArg s ?_)
  funext a; apply Fin.ext
  match a with
  | ⟨0, _⟩ => rfl
  | ⟨1, _⟩ => rfl

/-- The exponentials divided by their row's sum. -/
def probOf (p : FVec Ideal S256x16 .f32) : FVec Ideal S256x16 .f32 :=
  divf p (broadcastTo S256x16 (shapeCast S256x1 (multiReduction .add [1] S256 p 0x00000000#32 reduces_S256x16_S256 (.inl rfl) rfl : FVec Ideal S256 .f32)
    shapeCasts_S256_S256x1 : FVec Ideal S256x1 .f32) broadcasts_S256x1_S256x16)

/-- The probabilities at an index. -/
theorem probOf_apply (p : FVec Ideal S256x16 .f32) (t : Fin 256) (e : Fin 16) :
    probOf p (ix2 t e) = Ideal.div (p (ix2 t e)) (∑ k, p (ix2 t k)) := by
  refine congrArg (Ideal.div (p (ix2 t e))) ((column_apply _ _ t e).trans ((shapeCast_a_a1_apply _ _ t _).trans ?_))
  refine (Ideal.multiReduction_add_single p _ _ _ _ (ix1 t)).trans (Finset.sum_congr rfl fun k _ => congrArg p ?_)
  funext a; apply Fin.ext
  match a with
  | ⟨0, _⟩ => rfl
  | ⟨1, _⟩ => rfl

/-- The gates: the probability where the route names the expert, else zero. -/
def gateOf (x : FVec Ideal S256x128 .bf16) (R : FVec Ideal S128x16 .bf16) (I : IVec S256x1 32) : FVec Ideal S256x16 .bf16 :=
  truncf .bf16 (select (cmpi .eq (broadcastTo S256x16 (shapeCast S256x1 I shapeCasts_S256x1_S256x1) broadcasts_S256x1_S256x16) (iota .tc S256x16 32 [1] iota_S256x16_d1_w32))
    (probOf (expOf (scoresOf x R))) (broadcast S256x16 (Scalar.ofBits (F := Ideal) .f32 0x00000000#32)) : FVec Ideal S256x16 .f32) bitsLt_bf16_f32

/-- The gates at an index. -/
theorem gateOf_apply (x : FVec Ideal S256x128 .bf16) (R : FVec Ideal S128x16 .bf16) (I : IVec S256x1 32) (t : Fin 256) (e : Fin 16) :
    gateOf x R I (ix2 t e)
      = Moe.gate (I (ix2 t (0 : Fin 1))) (fun k => Moe.dot (fun d => x (ix2 t d)) (fun d => R (ix2 d k))) e := by
  unfold gateOf Moe.gate
  rw [shapeCast_self]
  have hp : probOf (expOf (scoresOf x R)) (ix2 t e)
      = Moe.prob (fun k => Moe.dot (fun d => x (ix2 t d)) (fun d => R (ix2 d k))) e := by
    simp only [probOf_apply, expOf_apply, scoresOf_apply]; rfl
  show Scalar.select (IntOp.cmpi .eq (broadcastTo S256x16 I broadcasts_S256x1_S256x16 (ix2 t e)) (iota .tc S256x16 32 [1] iota_S256x16_d1_w32 (ix2 t e)))
    (probOf (expOf (scoresOf x R)) (ix2 t e)) (Ideal.ofBits .f32 0x00000000#32) = _
  have hi : iota .tc S256x16 32 [1] iota_S256x16_d1_w32 (ix2 t e) = BitVec.ofNat 32 e.val := by
    show BitVec.ofNat 32 (0 * 16 + e.val) = _
    rw [zero_mul, zero_add]
  rw [hp, hi, Ideal.ofBits_zero_f32, column_apply]

/-- How far the gates are rotated on the device at place `p`, as the kernel computes it: 16 − 2p, modulo 16. -/
def turn (p : BitVec 32) : BitVec 32 :=
  let r : BitVec 32 := Scalar.remsi (Scalar.subi 16#32 (Scalar.muli 2#32 p)) (Scalar.select (Scalar.cmpi .eq 16#32 0#32) 1#32 16#32)
  let b : BitVec 32 := Scalar.select (Scalar.cmpi .eq 16#32 0#32) 1#32 16#32
  Scalar.select (Scalar.andi (Scalar.xori (Scalar.cmpi .slt r 0#32) (Scalar.cmpi .slt b 0#32)) (Scalar.cmpi .ne r 0#32)) (Scalar.addi r b) r

/-- The rotation's amount on device `c`, modulo the number of the experts. -/
theorem turn_place (c : Dev nD) : (turn (place c)).toNat = (16 - 2 * c.val) % 16 := by
  revert c; decide

/-- The rotated gates are the rotation of the gates. -/
theorem pay11_eq (p : BitVec 32) (x : FVec Ideal S256x128 .bf16) (R : FVec Ideal S128x16 .bf16) (I : IVec S256x1 32) :
    k0_pay11 (F := Ideal) p x R I = dynamicRotate 1 (turn p) none (gateOf x R I) rotates_S256x16_d1 := rfl

/-- The gates as the body holds them: rotated so that device `c`'s own experts come first. -/
theorem pay11_apply (c : Dev nD) (x : FVec Ideal S256x128 .bf16) (R : FVec Ideal S128x16 .bf16) (I : IVec S256x1 32) (t : Fin 256) (k : Fin 16) :
    k0_pay11 (F := Ideal) (place c) x R I (ix2 t k)
      = Moe.gate (I (ix2 t (0 : Fin 1))) (fun e => Moe.dot (fun d => x (ix2 t d)) (fun d => R (ix2 d e)))
          ⟨(k.val + 2 * c.val) % 16, Nat.mod_lt _ (by decide)⟩ := by
  rw [pay11_eq]
  refine Eq.trans ?_ (gateOf_apply x R I t ⟨(k.val + 2 * c.val) % 16, Nat.mod_lt _ (by decide)⟩)
  generalize gateOf x R I = G
  have ht := turn_place c
  generalize turn (place c) = p at ht ⊢
  refine dynamicRotate_apply (1 : Fin 2) p G rotates_S256x16_d1 (ix2 t k) (ix2 t ⟨(k.val + 2 * c.val) % 16, Nat.mod_lt _ (by decide)⟩) fun b => ?_
  match b with
  | ⟨0, _⟩ => rfl
  | ⟨1, _⟩ =>
    show (k.val + 2 * c.val) % 16 = (k.val + 16 - p.toNat % 16) % 16
    have hc : c.val < 8 := c.isLt
    have hk := k.isLt
    rw [ht]
    omega

/-! ## The codes and scales -/

/-- The largest magnitude of a column. -/
theorem pay2_apply (w : Vec Ideal S1x128x256 .bf16) (h : Fin 256) :
    k0_pay2 w (ix2 (0 : Fin 1) h) = Moe.size fun d => w (ix3 (0 : Fin 1) d h) := by
  unfold k0_pay2
  refine (shapeCast_a_1a_apply _ _ _ h).trans ((Ideal.multiReduction_maximumf_single _ _ _ _ _ (ix1 h)).trans ?_)
  unfold Moe.size Moe.top
  refine congrArg₂ (fun b f => Finset.fold max b f Finset.univ) bits_ninf16 (funext fun d => ?_)
  have e : k0_pay1 w (reduces_S128x256_S256.lift (ix1 h) d) = w (ix3 (0 : Fin 1) d h) := by
    refine Eq.trans (congrArg (k0_pay1 w) ?_) (shapeCast_1ab_ab_apply w _ d h)
    funext a; apply Fin.ext
    match a with
    | ⟨0, _⟩ => rfl
    | ⟨1, _⟩ => rfl
  show max (k0_pay1 w _) (-(k0_pay1 w _)) = _
  rw [e]

/-- The stored codes at an index. -/
theorem pay3_apply (w : Vec Ideal S1x128x256 .bf16) (d : Fin 128) (h : Fin 256) :
    k0_pay3 w (ix2 d h) = Ideal.fptosi 8 (Moe.code (fun d => w (ix3 (0 : Fin 1) d h)) d) := by
  have h1 : k0_pay1 w (ix2 d h) = w (ix3 (0 : Fin 1) d h) := shapeCast_1ab_ab_apply w _ d h
  unfold k0_pay3
  simp only [shapeCast_self]
  refine congrArg (fun a => Ideal.fptosi 8 (Ideal.liftRound Ideal.roundHalfEven a)) ?_
  refine congrArg₂ (· * ·) h1 ((broadcastTo_1b_ab_apply _ _ d h).trans ?_)
  have e0 : Scalar.ofBits (F := Ideal) .bf16 0x0000#16 = (0 : EReal) := bits_zero16
  have e1 : Scalar.ofBits (F := Ideal) .bf16 0x42FE#16 = (127 : EReal) := bits_127
  have e2 : Scalar.truncf (F := Ideal) .bf16 bitsLt_bf16_f32 (Scalar.ofBits (F := Ideal) .f32 0x00000000#32) = (0 : EReal) := Ideal.ofBits_zero_f32
  rw [e0, e1, e2, select_apply, cmpf_apply, divf_apply, pay2_apply]
  rfl

/-- The stored scales at an index: the largest magnitude divided by 127. -/
theorem pay4_apply (w : Vec Ideal S1x128x256 .bf16) (h : Fin 256) :
    k0_pay4 w (ix2 (0 : Fin 1) h) = Ideal.div (Moe.size (fun d => w (ix3 (0 : Fin 1) d h))) 127 := by
  unfold k0_pay4
  simp only [shapeCast_self]
  exact (mul_inv_127 _).trans (congrArg (fun a => Ideal.div a 127) (pay2_apply w h))

/-- The second expert is coded as the first. -/
theorem pay7_eq (w : Vec Ideal S1x128x256 .bf16) : k0_pay7 w = k0_pay3 w := rfl
/-- The second expert's scales are computed as the first's. -/
theorem pay8_eq (w : Vec Ideal S1x128x256 .bf16) : k0_pay8 w = k0_pay4 w := rfl

end Cert.KernelIdealProof

end
-- ==== Proof.KernelValue.lean ====
/-
  The kernel's result on a device, at an index, over the extended reals: the shared expert, the device's own two experts,
  and the two experts of every other device from the codes and scales that it sent.
-/
module

public import proofs.«01_k».proof.Proof.KernelTerms
public import proofs.«01_k».proof.Proof.Frames

@[expose] public section

noncomputable section

namespace Cert.KernelIdealProof

open Cert.KernelIdeal Cert.KernelIdeal.Gen
open Cert
open Idealize.ShloMosaic
open Idealize.ShloMosaic.TcCoe
open Idealize.ShloMosaic.ValueIdx

variable (m : (ℓ : Loc nD τ sig) → Buf (Elt Ideal) ℓ) (ρ : Dev nD → PrngReg) (c : Dev nD)

/-! ## The arguments -/

/-- A device's arguments: tokens, router, routes, its two experts, the shared expert. -/
def aX : FVec Ideal S256x128 .bf16 := m ((c : Thread nD τ).loc main_arg0)
/-- The router's weights. -/
def aR : FVec Ideal S128x16 .bf16 := m ((c : Thread nD τ).loc main_arg1)
/-- Device `c`'s routes. -/
def aI : IVec S256x1 32 := m ((c : Thread nD τ).loc main_arg2)
/-- Device `c`'s two experts. -/
def aW : FVec Ideal S2x128x256 .bf16 := m ((c : Thread nD τ).loc main_arg3)
/-- The shared expert's weights. -/
def aH : FVec Ideal S128x256 .bf16 := m ((c : Thread nD τ).loc main_arg4)

/-- Each staged argument is the argument's array. -/
theorem stg_x : xStg m ρ c = aX m c := by
  funext y; unfold xStg; rw [View.read_apply]
  refine congrArg (aX m c) (funext fun a => Fin.ext ?_)
  exact Pipeline.Window.rect_emb_val_of_index_zero win0_0 t0_0 a (by fin_cases a <;> rfl) y
theorem stg_r : rStg m ρ c = aR m c := by
  funext y; unfold rStg; rw [View.read_apply]
  refine congrArg (aR m c) (funext fun a => Fin.ext ?_)
  exact Pipeline.Window.rect_emb_val_of_index_zero win0_1 t0_0 a (by fin_cases a <;> rfl) y
theorem stg_i : iStg m ρ c = aI m c := by
  funext y; unfold iStg; rw [View.read_apply]
  refine congrArg (aI m c) (funext fun a => Fin.ext ?_)
  exact Pipeline.Window.rect_emb_val_of_index_zero win0_2 t0_0 a (by fin_cases a <;> rfl) y
theorem stg_w : wStg m ρ c = aW m c := by
  funext y; unfold wStg; rw [View.read_apply]
  refine congrArg (aW m c) (funext fun a => Fin.ext ?_)
  exact Pipeline.Window.rect_emb_val_of_index_zero win0_3 t0_0 a (by fin_cases a <;> rfl) y
theorem stg_h : hStg m ρ c = aH m c := by
  funext y; unfold hStg; rw [View.read_apply]
  refine congrArg (aH m c) (funext fun a => Fin.ext ?_)
  exact Pipeline.Window.rect_emb_val_of_index_zero win0_4 t0_0 a (by fin_cases a <;> rfl) y

theorem zeros3 : (![0, 0, 0] : Fin 3 → ℕ) = fun _ => 0 := by funext a; fin_cases a <;> rfl

/-- Each load of a whole staged argument gives its array. -/
theorem xL_eq : xL m ρ c = aX m c := (Memref.readAt_unit_zero (Elt Ideal) _ zeros2 _ _).trans (stg_x m ρ c)
theorem rL_eq : rL m ρ c = aR m c := (Memref.readAt_unit_zero (Elt Ideal) _ zeros2 _ _).trans (stg_r m ρ c)
theorem iL_eq : iL m ρ c = aI m c := (Memref.readAt_unit_zero (Elt Ideal) _ zeros2 _ _).trans (stg_i m ρ c)
theorem wL_eq : wL m ρ c = aW m c := (Memref.readAt_unit_zero (Elt Ideal) _ zeros3 _ _).trans (stg_w m ρ c)
theorem hL_eq : hL m ρ c = aH m c := (Memref.readAt_unit_zero (Elt Ideal) _ zeros2 _ _).trans (stg_h m ρ c)

/-- The load of the first expert, at an index. -/
theorem w0_apply (d : Fin 128) (h : Fin 256) : w0 m ρ c (ix3 (0 : Fin 1) d h) = aW m c (ix3 (0 : Fin 2) d h) := by
  unfold w0
  rw [stg_w]
  refine congrArg (aW m c) (?_ : rW0.emb (ix3 (0 : Fin 1) d h) = _)
  funext a; apply Fin.ext
  match a with
  | ⟨0, _⟩ => rfl
  | ⟨1, _⟩ => show 0 + 1 * d.val = d.val; omega
  | ⟨2, _⟩ => show 0 + 1 * h.val = h.val; omega
/-- The load of the second expert, at an index. -/
theorem w1_apply (d : Fin 128) (h : Fin 256) : w1 m ρ c (ix3 (0 : Fin 1) d h) = aW m c (ix3 (1 : Fin 2) d h) := by
  unfold w1
  rw [stg_w]
  refine congrArg (aW m c) (?_ : rW1.emb (ix3 (0 : Fin 1) d h) = _)
  funext a; apply Fin.ext
  match a with
  | ⟨0, _⟩ => rfl
  | ⟨1, _⟩ => show 0 + 1 * d.val = d.val; omega
  | ⟨2, _⟩ => show 0 + 1 * h.val = h.val; omega

/-! ## What arrives -/

/-- The codes that landed in place `k` are those of the device `k + 1` places back. -/
theorem lQ_apply (k : Fin 7) (p h : Fin 256) : lQ m ρ c k (ix3 (0 : Fin 1) p h) = codes m ρ (bwd k c) (ix2 p h) := by
  refine Eq.trans (congrArg (landQ m ρ c) (?_ : (rectQ k).emb (ix3 (0 : Fin 1) p h) = ix3 k p h)) rfl
  funext a; apply Fin.ext
  match a with
  | ⟨0, _⟩ => show k.val + 1 * 0 = k.val; omega
  | ⟨1, _⟩ => show 0 + 1 * p.val = p.val; omega
  | ⟨2, _⟩ => show 0 + 1 * h.val = h.val; omega
/-- The scales that landed in place `k` are those of the device `k + 1` places back. -/
theorem lS_apply (k : Fin 7) (u : Fin 2) (h : Fin 256) : lS m ρ c k (ix3 (0 : Fin 1) u h) = scales m ρ (bwd k c) (ix2 u h) := by
  refine Eq.trans (congrArg (landS m ρ c) (?_ : (rectS k).emb (ix3 (0 : Fin 1) u h) = ix3 k u h)) rfl
  funext a; apply Fin.ext
  match a with
  | ⟨0, _⟩ => show k.val + 1 * 0 = k.val; omega
  | ⟨1, _⟩ => show 0 + 1 * u.val = u.val; omega
  | ⟨2, _⟩ => show 0 + 1 * h.val = h.val; omega

/-- The weight that a device restores from the first expert's code and scale it received, and from the second's. -/
theorem got_lo (k : Fin 7) (d : Fin 128) (h : Fin 256) :
    (((lQ m ρ c k (ix3 (0 : Fin 1) (⟨d.val, by omega⟩ : Fin 256) h) : BitVec 8).toInt : ℝ) : EReal) * lS m ρ c k (ix3 (0 : Fin 1) (0 : Fin 2) h)
      = Moe.sent (fun d => aW m (bwd k c) (ix3 (0 : Fin 2) d h)) d := by
  rw [lQ_apply, lS_apply]
  unfold codes scales
  rw [codesOver_lo, scalesOver_lo, pay3_apply, pay4_apply, Moe.code_int8]
  simp only [w0_apply]
  rfl
/-- The second expert restored from place `k`. -/
theorem got_hi (k : Fin 7) (d : Fin 128) (h : Fin 256) :
    (((lQ m ρ c k (ix3 (0 : Fin 1) (⟨128 + d.val, by omega⟩ : Fin 256) h) : BitVec 8).toInt : ℝ) : EReal) * lS m ρ c k (ix3 (0 : Fin 1) (1 : Fin 2) h)
      = Moe.sent (fun d => aW m (bwd k c) (ix3 (1 : Fin 2) d h)) d := by
  rw [lQ_apply, lS_apply]
  unfold codes scales
  rw [codesOver_hi, scalesOver_hi, pay7_eq, pay8_eq, pay3_apply, pay4_apply, Moe.code_int8]
  simp only [w1_apply]
  rfl

/-! ## The gates -/

/-- The gate of expert `e` for the device's token `t`. -/
def coef (t : Fin 256) (e : Fin 16) : EReal :=
  Moe.gate (aI m c (ix2 t (0 : Fin 1))) (fun e => Moe.dot (fun d => aX m c (ix2 t d)) (fun d => aR m c (ix2 d e))) e

/-- The tokens as the products read them. -/
theorem x1_eq : x1 m ρ c = aX m c := (shapeCast_self _ _).trans (xL_eq m ρ c)
theorem x2_eq : x2 m ρ c = aX m c := (shapeCast_self _ _).trans (xL_eq m ρ c)

/-- The rotated gates of device `c` at an index. -/
theorem gates_apply (t : Fin 256) (k : Fin 16) :
    gates m ρ c (ix2 t k) = coef m c t ⟨(k.val + 2 * c.val) % 16, Nat.mod_lt _ (by decide)⟩ := by
  unfold gates
  rw [pay11_apply, x2_eq, rL_eq, iL_eq]
  rfl

/-- Expert `j` of device `v`. -/
def expert (v : Fin 8) (j : Fin 2) : Fin 16 := ⟨2 * v.val + j.val, by omega⟩

/-! ## The sum -/

/-- What expert `j` of device `v` adds to the device's token `t`, its weights being `w`. -/
def adds (t : Fin 256) (v : Fin 8) (j : Fin 2) (w : Fin 128 → EReal) : EReal :=
  Moe.dot (fun d => aX m c (ix2 t d) * coef m c t (expert v j)) w

/-- One of the device's own experts' weights. -/
def member (W : FVec Ideal S2x128x256 .bf16) (o : ℕ) (ho : S2x128x256.Slices ![o, 0, 0] S1x128x256) : FVec Ideal S128x256 .bf16 :=
  shapeCast S128x256 (extractStridedSlice S1x128x256 ![o, 0, 0] W ho : FVec Ideal S1x128x256 .bf16) shapeCasts_S1x128x256_S128x256

/-- A product of the body, into a zero accumulator. -/
def mm (l : FVec Ideal S256x128 .bf16) (r : FVec Ideal S128x256 .bf16) : FVec Ideal S256x256 .f32 :=
  matmul dot_S256x128_S128x256_S256x256_1_0_0_1_n_n none l r (constant S256x256 .f32 0x00000000#32)

/-- The sum before the first landing, written with its named parts. -/
theorem sumOwn_eq : sumOwn m ρ c
    = addf (addf (mm (x1 m ρ c) (shapeCast S128x256 (hL m ρ c : FVec Ideal S128x256 .bf16) shapeCasts_S128x256_S128x256))
        (mm (gated (x1 m ρ c) (gates m ρ c) 0 slices_S256x16_o0_0_S256x1)
          (member (shapeCast S2x128x256 (wL m ρ c : FVec Ideal S2x128x256 .bf16) shapeCasts_S2x128x256_S2x128x256) 0 slices_S2x128x256_o0_0_0_S1x128x256)))
        (mm (gated (x1 m ρ c) (gates m ρ c) 1 slices_S256x16_o0_1_S256x1)
          (member (shapeCast S2x128x256 (wL m ρ c : FVec Ideal S2x128x256 .bf16) shapeCasts_S2x128x256_S2x128x256) 1 slices_S2x128x256_o1_0_0_S1x128x256)) := rfl

/-- The shared expert and the device's own two experts, at an index. -/
theorem sumOwn_apply (t h : Fin 256) : sumOwn m ρ c (ix2 t h)
    = Moe.dot (fun d => aX m c (ix2 t d)) (fun d => aH m c (ix2 d h))
      + adds m c t c 0 (fun d => aW m c (ix3 (0 : Fin 2) d h)) + adds m c t c 1 (fun d => aW m c (ix3 (1 : Fin 2) d h)) := by
  have hc : c.val < 8 := c.isLt
  rw [sumOwn_eq, shapeCast_self, shapeCast_self, x1_eq, hL_eq, wL_eq]
  refine congrArg₂ (· + ·) (congrArg₂ (· + ·) (mm_apply _ _ t h) ((mm_apply _ _ t h).trans ?_)) ((mm_apply _ _ t h).trans ?_)
  · refine congrArg₂ Moe.dot (funext fun d => (gated_apply _ _ 0 _ 0 rfl t d).trans ?_)
      (funext fun d => (shapeCast_1ab_ab_apply _ _ d h).trans (member_apply 0 _ _ 0 rfl d h))
    rw [gates_apply]
    refine congrArg (fun e => aX m c (ix2 t d) * coef m c t e) (Fin.ext ?_)
    show (0 + 2 * c.val) % 16 = 2 * c.val + 0
    omega
  · refine congrArg₂ Moe.dot (funext fun d => (gated_apply _ _ 1 _ 1 rfl t d).trans ?_)
      (funext fun d => (shapeCast_1ab_ab_apply _ _ d h).trans (member_apply 1 _ _ 1 rfl d h))
    rw [gates_apply]
    refine congrArg (fun e => aX m c (ix2 t d) * coef m c t e) (Fin.ext ?_)
    show (1 + 2 * c.val) % 16 = 2 * c.val + 1
    omega

/-- What the device at the other end of slot `k` contributes. -/
def given (t h : Fin 256) (k : Fin 7) : EReal :=
  adds m c t (bwd k c) 0 (Moe.sent fun d => aW m (bwd k c) (ix3 (0 : Fin 2) d h))
    + adds m c t (bwd k c) 1 (Moe.sent fun d => aW m (bwd k c) (ix3 (1 : Fin 2) d h))

/-- What place `k` adds, as a sum over the tokens' entries. -/
theorem slot_value (k : Fin 7) (a : ℕ) (hak : a = 14 - 2 * k.val) (ha : S256x16.Slices ![0, a] S256x1) (ha' : S256x16.Slices ![0, a + 1] S256x1)
    (acc : FVec Ideal S256x256 .f32) (t h : Fin 256) :
    slot (x1 m ρ c) (gates m ρ c) (lQ m ρ c k) (lS m ρ c k) a ha ha' acc (ix2 t h) = acc (ix2 t h) + given m c t h k := by
  have hc : c.val < 8 := c.isLt
  have hk : k.val < 7 := k.isLt
  have hb : (bwd k c).val = (c.val + (6 - k.val + 1)) % 8 := rfl
  rw [slot_apply _ _ _ _ a ha ha' acc ⟨a, by omega⟩ ⟨a + 1, by omega⟩ rfl rfl, add_assoc]
  refine congrArg (acc (ix2 t h) + ·) (congrArg₂ (· + ·) ?_ ?_)
  · refine congrArg₂ Moe.dot (funext fun d => ?_) (funext fun d => got_lo m ρ c k d h)
    rw [gates_apply, x1_eq]
    refine congrArg (fun e => aX m c (ix2 t d) * coef m c t e) (Fin.ext ?_)
    show (a + 2 * c.val) % 16 = 2 * (bwd k c).val + 0
    omega
  · refine congrArg₂ Moe.dot (funext fun d => ?_) (funext fun d => got_hi m ρ c k d h)
    rw [gates_apply, x1_eq]
    refine congrArg (fun e => aX m c (ix2 t d) * coef m c t e) (Fin.ext ?_)
    show (a + 1 + 2 * c.val) % 16 = 2 * (bwd k c).val + 1
    omega

/-- Each partial sum adds one place's products to the one before. -/
theorem sum0_eq : sum0 m ρ c = slot (x1 m ρ c) (gates m ρ c) (lQ m ρ c 0) (lS m ρ c 0) 14 slices_S256x16_o0_14_S256x1 slices_S256x16_o0_15_S256x1 (sumOwn m ρ c) := rfl
theorem sum1_eq : sum1 m ρ c = slot (x1 m ρ c) (gates m ρ c) (lQ m ρ c 1) (lS m ρ c 1) 12 slices_S256x16_o0_12_S256x1 slices_S256x16_o0_13_S256x1 (sum0 m ρ c) := rfl
theorem sum2_eq : sum2 m ρ c = slot (x1 m ρ c) (gates m ρ c) (lQ m ρ c 2) (lS m ρ c 2) 10 slices_S256x16_o0_10_S256x1 slices_S256x16_o0_11_S256x1 (sum1 m ρ c) := rfl
theorem sum3_eq : sum3 m ρ c = slot (x1 m ρ c) (gates m ρ c) (lQ m ρ c 3) (lS m ρ c 3) 8 slices_S256x16_o0_8_S256x1 slices_S256x16_o0_9_S256x1 (sum2 m ρ c) := rfl
theorem sum4_eq : sum4 m ρ c = slot (x1 m ρ c) (gates m ρ c) (lQ m ρ c 4) (lS m ρ c 4) 6 slices_S256x16_o0_6_S256x1 slices_S256x16_o0_7_S256x1 (sum3 m ρ c) := rfl
theorem sum5_eq : sum5 m ρ c = slot (x1 m ρ c) (gates m ρ c) (lQ m ρ c 5) (lS m ρ c 5) 4 slices_S256x16_o0_4_S256x1 slices_S256x16_o0_5_S256x1 (sum4 m ρ c) := rfl
theorem outAt_eq : outAt m ρ c = slot (x1 m ρ c) (gates m ρ c) (lQ m ρ c 6) (lS m ρ c 6) 2 slices_S256x16_o0_2_S256x1 slices_S256x16_o0_3_S256x1 (sum5 m ρ c) := rfl

/-- The kernel's result. -/
theorem outAt_apply (t h : Fin 256) : outAt m ρ c (ix2 t h)
    = Moe.dot (fun d => aX m c (ix2 t d)) (fun d => aH m c (ix2 d h))
      + ((adds m c t c 0 (fun d => aW m c (ix3 (0 : Fin 2) d h)) + adds m c t c 1 (fun d => aW m c (ix3 (1 : Fin 2) d h)))
        + ∑ k : Fin 7, given m c t h k) := by
  rw [outAt_eq, slot_value m ρ c 6 2 rfl, sum5_eq, slot_value m ρ c 5 4 rfl, sum4_eq, slot_value m ρ c 4 6 rfl,
    sum3_eq, slot_value m ρ c 3 8 rfl, sum2_eq, slot_value m ρ c 2 10 rfl, sum1_eq, slot_value m ρ c 1 12 rfl,
    sum0_eq, slot_value m ρ c 0 14 rfl, sumOwn_apply, Fin.sum_univ_seven]
  simp only [add_assoc]

end Cert.KernelIdealProof

end
-- ==== Proof.RefValue.lean ====
/-
  The reference's result at an index, over the extended reals: the shared expert plus, expert after expert, the gate times
  the token's product with the weights its device has: the expert's own, or the ones that the code stands for.
-/
module

public import proofs.«01_k».proof.Proof.Spec
public import proofs.«01_k».proof.Proof.Gen.ReferenceIdeal.Run
public import Idealize.ShloMosaic.Lib.IdealHost
public import Idealize.ShloMosaic.Lib.KernelVsHost
public import Idealize.ShloMosaic.Lib.MatmulPlain
public import Idealize.ShloMosaic.Lib.ValueIdx
public import Idealize.ShloMosaic.Lib.ValueLayout
public import Idealize.ShloMosaic.Lib.ValueLayoutCasts

@[expose] public section

noncomputable section

namespace Cert.ReferenceIdealProof

open Cert.ReferenceIdeal Cert.ReferenceIdeal.Gen
open Cert
open Idealize.ShloMosaic
open Idealize.ShloMosaic.TcCoe
open Idealize.ShloMosaic.ValueIdx

/-! ## The constants -/

/-- The float words of the program, as numbers: the start of a maximum, 127 and −127. -/
theorem bits_ninf : Ideal.ofBits .f32 0xFF800000#32 = ⊥ := by simp [Ideal.ofBits, Ideal.ieee]
theorem bits_ninf16 : Ideal.ofBits .bf16 0xFF80#16 = ⊥ := by simp [Ideal.ofBits, Ideal.ieee]
theorem bits_127 : Ideal.ofBits .bf16 0x42FE#16 = 127 := by
  have : Ideal.ofBits .bf16 0x42FE#16 = ((127 : ℝ) : EReal) := by
    simp [Ideal.ofBits, Ideal.ieee]
    rw [← EReal.coe_mul]; norm_num
  rw [this]; rfl
theorem bits_n127 : Ideal.ofBits .bf16 0xC2FE#16 = -127 := by
  have : Ideal.ofBits .bf16 0xC2FE#16 = ((-127 : ℝ) : EReal) := by
    simp [Ideal.ofBits, Ideal.ieee, -EReal.coe_mul, -EReal.coe_neg]; norm_num
  rw [this, EReal.coe_neg]; rfl

/-! ## Layout -/

section Layout
variable {α : Type}

/-- The broadcasts of the program, each read at an index. -/
theorem vec_col (x : S2048.Idx → α) (t : Fin 2048) (u : Fin 1) :
    broadcastInDim S2048x1 ![0] bcast_S2048_S2048x1_0 x (ix2 t u) = x (ix1 t) :=
  broadcastInDim_apply _ _ x _ _ fun a => match a with | ⟨0, _⟩ => rfl
theorem col_mat (x : S2048x1.Idx → α) (t : Fin 2048) (e : Fin 16) :
    broadcastInDim S2048x16 ![0, 1] bcast_S2048x1_S2048x16_0_1 x (ix2 t e) = x (ix2 t (0 : Fin 1)) :=
  broadcastInDim_apply _ _ x _ _ fun a => match a with | ⟨0, _⟩ => rfl | ⟨1, _⟩ => rfl
theorem row_mat (x : S1x16.Idx → α) (t : Fin 2048) (e : Fin 16) :
    broadcastInDim S2048x16 ![0, 1] bcast_S1x16_S2048x16_0_1 x (ix2 t e) = x (ix2 (0 : Fin 1) e) :=
  broadcastInDim_apply _ _ x _ _ fun a => match a with | ⟨0, _⟩ => rfl | ⟨1, _⟩ => rfl
theorem mat_cube (x : S2048x16.Idx → α) (t : Fin 2048) (e : Fin 16) (u : Fin 1) :
    broadcastInDim S2048x16x1 ![0, 1] bcast_S2048x16_S2048x16x1_0_1 x (ix3 t e u) = x (ix2 t e) :=
  broadcastInDim_apply _ _ x _ _ fun a => match a with | ⟨0, _⟩ => rfl | ⟨1, _⟩ => rfl
theorem cube_cube (x : S2048x16x1.Idx → α) (t : Fin 2048) (e : Fin 16) (h : Fin 256) :
    broadcastInDim S2048x16x256 ![0, 1, 2] bcast_S2048x16x1_S2048x16x256_0_1_2 x (ix3 t e h) = x (ix3 t e (0 : Fin 1)) :=
  broadcastInDim_apply _ _ x _ _ fun a => match a with | ⟨0, _⟩ => rfl | ⟨1, _⟩ => rfl | ⟨2, _⟩ => rfl
theorem size_keep (x : S16x256.Idx → α) (e : Fin 16) (u : Fin 1) (h : Fin 256) :
    broadcastInDim S16x1x256 ![0, 2] bcast_S16x256_S16x1x256_0_2 x (ix3 e u h) = x (ix2 e h) :=
  broadcastInDim_apply _ _ x _ _ fun a => match a with | ⟨0, _⟩ => rfl | ⟨1, _⟩ => rfl
theorem keep_full (x : S16x1x256.Idx → α) (e : Fin 16) (d : Fin 128) (h : Fin 256) :
    broadcastInDim S16x128x256 ![0, 1, 2] bcast_S16x1x256_S16x128x256_0_1_2 x (ix3 e d h) = x (ix3 e (0 : Fin 1) h) :=
  broadcastInDim_apply _ _ x _ _ fun a => match a with | ⟨0, _⟩ => rfl | ⟨1, _⟩ => rfl | ⟨2, _⟩ => rfl

end Layout

/-! ## The gates -/

/-- The scores. -/
def scoresOf (X : FVec Ideal S2048x128 .bf16) (R : FVec Ideal S128x16 .bf16) : FVec Ideal S2048x16 .f32 :=
  Host.dotGeneral dot_S2048x128_S128x16_S2048x16_1_0_0_1_n_n none X R

/-- A plain product at an index is the row times the column. -/
theorem plain_apply {M N : ℕ} {φ₁ φ₂ : FTy} (d : DotDims ⟨2, ![M, 128]⟩ ⟨2, ![128, N]⟩ ⟨2, ![M, N]⟩) (hd : d = DotDims.plain M 128 N)
    (X : FVec Ideal ⟨2, ![M, 128]⟩ φ₁) (R : FVec Ideal ⟨2, ![128, N]⟩ φ₂) (t : Fin M) (e : Fin N) :
    Host.dotGeneral d none X R (ix2 t e) = Moe.dot (fun k => X (ix2 t k)) (fun k => R (ix2 k e)) := by
  subst hd
  refine ((Ideal.dotGeneral_apply (DotDims.plain M 128 N) none _ X R (ix2 t e)).trans
    (Ideal.matmul_constant_zero_apply (DotDims.plain M 128 N) none X R (ix2 t e)).symm).trans ?_
  exact (Ideal.matmul_plain_apply none X R (constant ⟨2, ![M, N]⟩ .f32 0x00000000#32) t e).trans
    ((congrArg (· + _) Ideal.ofBits_zero_f32).trans (zero_add _))

/-- The scores at an index. -/
theorem scoresOf_apply (X : FVec Ideal S2048x128 .bf16) (R : FVec Ideal S128x16 .bf16) (t : Fin 2048) (e : Fin 16) :
    scoresOf X R (ix2 t e) = Moe.dot (fun d => X (ix2 t d)) (fun d => R (ix2 d e)) :=
  plain_apply _ rfl X R t e

/-- The axis that each reduction removes. -/
theorem reduces_rows : S2048x16.Reduces [1] S2048 := by decide
theorem reduces_cols : S16x128x256.Reduces [1] S16x256 := by decide
theorem reduces_experts : S2048x16x256.Reduces [1] S2048x256 := by decide

/-- The exponentials of the scores less the largest of their row. -/
def expOf (s : FVec Ideal S2048x16 .f32) : FVec Ideal S2048x16 .f32 :=
  Host.exp (subf s (broadcastInDim S2048x16 ![0, 1] bcast_S2048x1_S2048x16_0_1 (broadcastInDim S2048x1 ![0] bcast_S2048_S2048x1_0
    (Host.reduce FloatOps.maximumf s (constant S_ .f32 0xFF800000#32) reducesTo_S2048x16_S2048_d1 h_S_))))

/-- The exponentials at an index. -/
theorem expOf_apply (s : FVec Ideal S2048x16 .f32) (t : Fin 2048) (e : Fin 16) :
    expOf s (ix2 t e) = Ideal.exp (s (ix2 t e) - Moe.top fun k => s (ix2 t k)) := by
  refine congrArg (fun b => Ideal.exp (s (ix2 t e) - b)) ((col_mat _ t e).trans ((vec_col _ t _).trans ?_))
  refine (Host.reduce_eq_fold_single (max : EReal → EReal → EReal) s _ _ reduces_rows _ (ix1 t)).trans ?_
  unfold Moe.top
  refine congrArg₂ (fun b f => Finset.fold max b f Finset.univ) bits_ninf (funext fun k => congrArg s ?_)
  funext a; apply Fin.ext
  match a with
  | ⟨0, _⟩ => rfl
  | ⟨1, _⟩ => rfl

/-- The exponentials divided by their row's sum. -/
def probOf (p : FVec Ideal S2048x16 .f32) : FVec Ideal S2048x16 .f32 :=
  Host.divf p (broadcastInDim S2048x16 ![0, 1] bcast_S2048x1_S2048x16_0_1 (broadcastInDim S2048x1 ![0] bcast_S2048_S2048x1_0
    (Host.reduceAdd p (constant S_ .f32 0x00000000#32) reducesTo_S2048x16_S2048_d1 h_S_)))

/-- The probabilities at an index. -/
theorem probOf_apply (p : FVec Ideal S2048x16 .f32) (t : Fin 2048) (e : Fin 16) :
    probOf p (ix2 t e) = Ideal.div (p (ix2 t e)) (∑ k, p (ix2 t k)) := by
  refine congrArg (Ideal.div (p (ix2 t e))) ((col_mat _ t e).trans ((vec_col _ t _).trans ?_))
  refine (Ideal.hostReduceAdd_single _ reduces_rows p _ (ix1 t)).trans ?_
  refine (congrArg (· + _) Ideal.ofBits_zero_f32).trans ((zero_add _).trans (Finset.sum_congr rfl fun k _ => congrArg p ?_))
  funext a; apply Fin.ext
  match a with
  | ⟨0, _⟩ => rfl
  | ⟨1, _⟩ => rfl

/-- The gates: the probability where the route names the expert, else zero. -/
def gateOf (X : FVec Ideal S2048x128 .bf16) (R : FVec Ideal S128x16 .bf16) (I : IVec S2048x1 32) : FVec Ideal S2048x16 .f32 :=
  select (cmpi .eq (broadcastInDim S2048x16 ![0, 1] bcast_S2048x1_S2048x16_0_1 I) (broadcastInDim S2048x16 ![0, 1] bcast_S1x16_S2048x16_0_1 (iotaInDim S1x16 32 1)))
    (probOf (expOf (scoresOf X R))) (broadcastInDim S2048x16 ![] bcast_S_S2048x16 (id (constant S_ .f32 0x00000000#32)))

/-- The gates at an index. -/
theorem gateOf_apply (X : FVec Ideal S2048x128 .bf16) (R : FVec Ideal S128x16 .bf16) (I : IVec S2048x1 32) (t : Fin 2048) (e : Fin 16) :
    gateOf X R I (ix2 t e)
      = Moe.gate (I (ix2 t (0 : Fin 1))) (fun k => Moe.dot (fun d => X (ix2 t d)) (fun d => R (ix2 d k))) e := by
  have hp : probOf (expOf (scoresOf X R)) (ix2 t e)
      = Moe.prob (fun k => Moe.dot (fun d => X (ix2 t d)) (fun d => R (ix2 d k))) e := by
    simp only [probOf_apply, expOf_apply, scoresOf_apply]; rfl
  have hz : broadcastInDim S2048x16 ![] bcast_S_S2048x16 (id (constant (F := Ideal) S_ .f32 0x00000000#32)) (ix2 t e) = (0 : EReal) := Ideal.ofBits_zero_f32
  unfold gateOf Moe.gate
  rw [select_apply, hp, hz]
  refine congrArg (fun b => Scalar.select b _ _) (congrArg₂ (IntOp.cmpi .eq) (col_mat I t e) ((row_mat _ t e).trans ?_))
  rfl

/-! ## The weights sent -/

/-- The largest magnitude of each column of each expert. -/
def sizeOf' (W : FVec Ideal S16x128x256 .bf16) : FVec Ideal S16x1x256 .bf16 :=
  broadcastInDim S16x1x256 ![0, 2] bcast_S16x256_S16x1x256_0_2 (Host.reduce FloatOps.maximumf (Host.absf W) (constant S_ .bf16 0xFF80#16) reducesTo_S16x128x256_S16x256_d1 h_S_)

/-- The largest magnitudes at an index. -/
theorem sizeOf'_apply (W : FVec Ideal S16x128x256 .bf16) (e : Fin 16) (u : Fin 1) (h : Fin 256) :
    sizeOf' W (ix3 e u h) = Moe.size fun d => W (ix3 e d h) := by
  refine (size_keep _ e u h).trans ((Host.reduce_eq_fold_single (max : EReal → EReal → EReal) _ _ _ reduces_cols _ (ix2 e h)).trans ?_)
  unfold Moe.size Moe.top
  refine congrArg₂ (fun b f => Finset.fold max b f Finset.univ) bits_ninf16 (funext fun d => ?_)
  have e' : reduces_cols.lift (ix2 e h) d = ix3 e d h := by
    funext a; apply Fin.ext
    match a with
    | ⟨0, _⟩ => rfl
    | ⟨1, _⟩ => rfl
    | ⟨2, _⟩ => rfl
  exact congrArg (fun i => max (W i) (-(W i))) e'

/-- The codes: the entries scaled to ±127 and rounded. -/
def codeOf (W : FVec Ideal S16x128x256 .bf16) : FVec Ideal S16x128x256 .bf16 :=
  Host.roundeven (mulf W (broadcastInDim S16x128x256 ![0, 1, 2] bcast_S16x1x256_S16x128x256_0_1_2
    (select (cmpf .ogt (sizeOf' W) (broadcastInDim S16x1x256 ![] bcast_S_S16x1x256 (constant S_ .bf16 0x0000#16)))
      (Host.divf (broadcastInDim S16x1x256 ![] bcast_S_S16x1x256 (constant S_ .bf16 0x42FE#16)) (sizeOf' W))
      (broadcastInDim S16x1x256 ![] bcast_S_S16x1x256 (truncf .bf16 (constant S_ .f32 0x00000000#32 : FVec Ideal S_ .f32) bitsLt_bf16_f32)))))

/-- The codes at an index. -/
theorem codeOf_apply (W : FVec Ideal S16x128x256 .bf16) (e : Fin 16) (d : Fin 128) (h : Fin 256) :
    codeOf W (ix3 e d h) = Moe.code (fun d => W (ix3 e d h)) d := by
  refine congrArg (fun a => Ideal.liftRound Ideal.roundHalfEven (W (ix3 e d h) * a)) ((keep_full _ e d h).trans ?_)
  have e0 : broadcastInDim S16x1x256 ![] bcast_S_S16x1x256 (constant (F := Ideal) S_ .bf16 0x0000#16) (ix3 e (0 : Fin 1) h) = (0 : EReal) := Ideal.ofBits_zero_bf16
  have e1 : broadcastInDim S16x1x256 ![] bcast_S_S16x1x256 (constant (F := Ideal) S_ .bf16 0x42FE#16) (ix3 e (0 : Fin 1) h) = (127 : EReal) := bits_127
  have e2 : broadcastInDim S16x1x256 ![] bcast_S_S16x1x256 (truncf .bf16 (constant S_ .f32 0x00000000#32 : FVec Ideal S_ .f32) bitsLt_bf16_f32) (ix3 e (0 : Fin 1) h) = (0 : EReal) := Ideal.ofBits_zero_f32
  rw [select_apply, cmpf_apply, hostDivf_apply, e0, e1, e2, sizeOf'_apply]
  rfl

/-- The weights that the clipped codes and the scales stand for. -/
def sentOf (W : FVec Ideal S16x128x256 .bf16) : FVec Ideal S16x128x256 .bf16 :=
  mulf (minimumf (maximumf (codeOf W) (broadcastInDim S16x128x256 ![] bcast_S_S16x128x256 (constant S_ .bf16 0xC2FE#16)))
      (broadcastInDim S16x128x256 ![] bcast_S_S16x128x256 (constant S_ .bf16 0x42FE#16)))
    (broadcastInDim S16x128x256 ![0, 1, 2] bcast_S16x1x256_S16x128x256_0_1_2
      (Host.divf (sizeOf' W) (broadcastInDim S16x1x256 ![] bcast_S_S16x1x256 (constant S_ .bf16 0x42FE#16))))

/-- The weights sent, at an index: the clipping changes nothing. -/
theorem sentOf_apply (W : FVec Ideal S16x128x256 .bf16) (e : Fin 16) (d : Fin 128) (h : Fin 256) :
    sentOf W (ix3 e d h) = Moe.sent (fun d => W (ix3 e d h)) d := by
  have e1 : broadcastInDim S16x128x256 ![] bcast_S_S16x128x256 (constant (F := Ideal) S_ .bf16 0x42FE#16) (ix3 e d h) = (127 : EReal) := bits_127
  have e2 : broadcastInDim S16x128x256 ![] bcast_S_S16x128x256 (constant (F := Ideal) S_ .bf16 0xC2FE#16) (ix3 e d h) = (-127 : EReal) := bits_n127
  have e3 : broadcastInDim S16x1x256 ![] bcast_S_S16x1x256 (constant (F := Ideal) S_ .bf16 0x42FE#16) (ix3 e (0 : Fin 1) h) = (127 : EReal) := bits_127
  unfold sentOf
  rw [mulf_apply, minimumf_apply, maximumf_apply, e1, e2, codeOf_apply, keep_full, hostDivf_apply, e3, sizeOf'_apply]
  exact congrArg (· * _) (Moe.code_clip _ d)

/-! ## The sum -/

/-- Every token times every expert. -/
def stackDot (X : FVec Ideal S2048x128 .bf16) (W : FVec Ideal S16x128x256 .bf16) : FVec Ideal S2048x16x256 .f32 :=
  Host.dotGeneral dot_S2048x128_S16x128x256_S2048x16x256_1_1_0_02_n_n none X W

/-- Every token times every expert, at an index. -/
theorem stackDot_apply (X : FVec Ideal S2048x128 .bf16) (W : FVec Ideal S16x128x256 .bf16) (t : Fin 2048) (e : Fin 16) (h : Fin 256) :
    stackDot X W (ix3 t e h) = Moe.dot (fun d => X (ix2 t d)) (fun d => W (ix3 e d h)) := by
  unfold stackDot Moe.dot
  simp only [Host.dotGeneral]
  rw [Ideal.dotGeneral_apply, ← Equiv.sum_comp (contrEquiv1 dot_S2048x128_S16x128x256_S2048x16x256_1_1_0_02_n_n 128 rfl rfl).symm]
  refine Finset.sum_congr rfl fun k _ => ?_
  have hk := contrEquiv1_symm_val dot_S2048x128_S16x128x256_S2048x16x256_1_1_0_02_n_n 128 rfl rfl k
  refine congrArg₂ (· * ·) (congrArg X ?_) (congrArg W ?_)
  · funext a; apply Fin.ext
    match a with
    | ⟨0, _⟩ => rfl
    | ⟨1, _⟩ => exact hk
  · funext a; apply Fin.ext
    match a with
    | ⟨0, _⟩ => rfl
    | ⟨1, _⟩ => exact hk
    | ⟨2, _⟩ => rfl

/-- Whether a token and an expert are on one device. -/
def hereOf : IVec S2048x16 1 :=
  cmpi .eq (broadcastInDim S2048x16 ![0, 1] bcast_S2048x1_S2048x16_0_1 (shapeCast _ (iotaInDim S8x256 32 0) shapeCasts_S8x256_S2048x1))
    (broadcastInDim S2048x16 ![0, 1] bcast_S1x16_S2048x16_0_1 (shapeCast _ (iotaInDim S8x2 32 0) shapeCasts_S8x2_S1x16))

/-- Token `t` and expert `e` are on one device. -/
theorem hereOf_apply (t : Fin 2048) (e : Fin 16) :
    hereOf (ix2 t e) = IntOp.cmpi .eq (BitVec.ofNat 32 (t.val / 256)) (BitVec.ofNat 32 (e.val / 2)) := by
  refine congrArg₂ (IntOp.cmpi .eq) ((col_mat _ t e).trans ?_) ((row_mat _ t e).trans ?_)
  · refine (shapeCast_apply _ _ _ (ix2 (⟨t.val / 256, by omega⟩ : Fin 8) (⟨t.val % 256, by omega⟩ : Fin 256)) ?_).trans rfl
    rw [Shape.rowMajor_val_two, Shape.rowMajor_val_two]
    show t.val / 256 * 256 + t.val % 256 = t.val * 1 + 0
    omega
  · refine (shapeCast_apply _ _ _ (ix2 (⟨e.val / 2, by omega⟩ : Fin 8) (⟨e.val % 2, by omega⟩ : Fin 2)) ?_).trans rfl
    rw [Shape.rowMajor_val_two, Shape.rowMajor_val_two]
    show e.val / 2 * 2 + e.val % 2 = 0 * 16 + e.val
    omega

/-- Each expert's share of each token's result. -/
def termsOf (X : FVec Ideal S2048x128 .bf16) (R : FVec Ideal S128x16 .bf16) (I : IVec S2048x1 32) (W : FVec Ideal S16x128x256 .bf16) :
    FVec Ideal S2048x16x256 .f32 :=
  mulf (broadcastInDim S2048x16x256 ![0, 1, 2] bcast_S2048x16x1_S2048x16x256_0_1_2 (broadcastInDim S2048x16x1 ![0, 1] bcast_S2048x16_S2048x16x1_0_1 (gateOf X R I)))
    (select (broadcastInDim S2048x16x256 ![0, 1, 2] bcast_S2048x16x1_S2048x16x256_0_1_2 (broadcastInDim S2048x16x1 ![0, 1] bcast_S2048x16_S2048x16x1_0_1 hereOf))
      (stackDot X W) (stackDot X (sentOf W)))

/-- An expert's share at an index. -/
theorem termsOf_apply (X : FVec Ideal S2048x128 .bf16) (R : FVec Ideal S128x16 .bf16) (I : IVec S2048x1 32) (W : FVec Ideal S16x128x256 .bf16)
    (t : Fin 2048) (e : Fin 16) (h : Fin 256) :
    termsOf X R I W (ix3 t e h)
      = Moe.gate (I (ix2 t (0 : Fin 1))) (fun k => Moe.dot (fun d => X (ix2 t d)) (fun d => R (ix2 d k))) e
        * Scalar.select (IntOp.cmpi .eq (BitVec.ofNat 32 (t.val / 256)) (BitVec.ofNat 32 (e.val / 2)))
            (Moe.dot (fun d => X (ix2 t d)) (fun d => W (ix3 e d h)))
            (Moe.dot (fun d => X (ix2 t d)) (Moe.sent fun d => W (ix3 e d h))) := by
  unfold termsOf
  rw [mulf_apply, select_apply, cube_cube, mat_cube, cube_cube, mat_cube, gateOf_apply, hereOf_apply, stackDot_apply, stackDot_apply]
  simp only [sentOf_apply]

/-- The result: the shared expert and the sum of the experts' shares. -/
def outOf (X : FVec Ideal S2048x128 .bf16) (R : FVec Ideal S128x16 .bf16) (I : IVec S2048x1 32) (W : FVec Ideal S16x128x256 .bf16) (H : FVec Ideal S128x256 .bf16) :
    FVec Ideal S2048x256 .f32 :=
  addf (Host.dotGeneral dot_S2048x128_S128x256_S2048x256_1_0_0_1_n_n none X H)
    (Host.reduceAdd (termsOf X R I W) (constant S_ .f32 0x00000000#32) reducesTo_S2048x16x256_S2048x256_d1 h_S_)

/-- The result at an index. -/
theorem outOf_apply (X : FVec Ideal S2048x128 .bf16) (R : FVec Ideal S128x16 .bf16) (I : IVec S2048x1 32) (W : FVec Ideal S16x128x256 .bf16) (H : FVec Ideal S128x256 .bf16)
    (t : Fin 2048) (h : Fin 256) :
    outOf X R I W H (ix2 t h) = Moe.dot (fun d => X (ix2 t d)) (fun d => H (ix2 d h)) + ∑ e : Fin 16, termsOf X R I W (ix3 t e h) := by
  refine congrArg₂ (· + ·) (plain_apply _ rfl X H t h) ?_
  refine (Ideal.hostReduceAdd_single _ reduces_experts (termsOf X R I W) _ (ix2 t h)).trans ?_
  refine (congrArg (· + _) Ideal.ofBits_zero_f32).trans ((zero_add _).trans (Finset.sum_congr rfl fun e _ => congrArg (termsOf X R I W) ?_))
  funext a; apply Fin.ext
  match a with
  | ⟨0, _⟩ => rfl
  | ⟨1, _⟩ => rfl
  | ⟨2, _⟩ => rfl

/-- The array that the run of the reference ends with is the result. -/
theorem res_eq (m : (ℓ : Loc nD τ sig) → Buf (Elt Ideal) ℓ) (c : Dev nD) :
    Value.res_out0 (F := Ideal) m c = outOf (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.ReferenceIdealProof

end
-- ==== Proof.Equal.lean ====
/-
  The two programs' results are equal: device `c`'s result is block `c` of the reference's, when the tokens and the
  router's weights are finite.
-/
module

public import proofs.«01_k».proof.Proof.KernelValue
public import proofs.«01_k».proof.Proof.RefValue
public import proofs.«01_k».proof.Proof.Gen.Pre_finite_KernelIdeal
public import proofs.«01_k».proof.Proof.Gen.Pre_finite_ReferenceIdeal
public import Idealize.ShloMosaic.Lib.ReduceAll
public import Idealize.ShloMosaic.Lib.Layout

@[expose] public section

noncomputable section

namespace Cert.Equal

open Cert Cert.KernelIdealProof
open Idealize.ShloMosaic Idealize.SL.Sem
open Idealize.ShloMosaic.TcCoe
open Idealize.ShloMosaic.ValueIdx
open Cert.KernelIdeal (nD τ sig)

/-! ## The sum over the experts, device after device -/

/-- The seven devices that device `c` receives from are the seven others. -/
theorem bwd_ne (k : Fin 7) (c : Fin 8) : bwd k c ≠ c := by revert k c; decide
theorem bwd_inj (c : Fin 8) (a b : Fin 7) : bwd a c = bwd b c → a = b := by revert c a b; decide
theorem others (c : Fin 8) : (Finset.univ : Finset (Fin 8)) = insert c (Finset.univ.image fun k : Fin 7 => bwd k c) := by
  revert c; decide

/-- A sum over the devices is the term of device `c` and those of the senders, in the order of the landing places. -/
theorem sum_devices (c : Fin 8) (f : Fin 8 → EReal) : ∑ v, f v = f c + ∑ k : Fin 7, f (bwd k c) := by
  rw [others c, Finset.sum_insert, Finset.sum_image]
  · exact fun a _ b _ h => bwd_inj c a b h
  · intro h
    obtain ⟨k, -, hk⟩ := Finset.mem_image.mp h
    exact bwd_ne k c hk

/-- A sum over the experts is one over the devices of two terms each. -/
theorem sum_experts (f : Fin 16 → EReal) : ∑ e, f e = ∑ v : Fin 8, (f (expert v 0) + f (expert v 1)) := by
  rw [← Equiv.sum_comp (finProdFinEquiv (m := 8) (n := 2)) f, Fintype.sum_prod_type]
  refine Finset.sum_congr rfl fun v _ => ?_
  rw [Fin.sum_univ_two]
  refine congrArg₂ (fun a b => f a + f b) (Fin.ext ?_) (Fin.ext ?_)
  · show 0 + 2 * v.val = 2 * v.val + 0; omega
  · show 1 + 2 * v.val = 2 * v.val + 1; omega

/-! ## The equation -/

/-- Device `c`'s token `t` among all the tokens. -/
def tok (c : Fin 8) (t : Fin 256) : Fin 2048 := ⟨c.val * 256 + t.val, by omega⟩

/-- Token `t` of device `c` and expert `j` of device `v` are on one device if `c` is `v`. -/
theorem same_device (c v : Fin 8) (t : Fin 256) (j : Fin 2) :
    IntOp.cmpi .eq (BitVec.ofNat 32 ((tok c t).val / 256)) (BitVec.ofNat 32 ((expert v j).val / 2)) = if c = v then 1#1 else 0#1 := by
  have h1 : (tok c t).val / 256 = c.val := by show (c.val * 256 + t.val) / 256 = c.val; omega
  have h2 : (expert v j).val / 2 = v.val := by show (2 * v.val + j.val) / 2 = v.val; omega
  rw [h1, h2]
  clear h1 h2; revert c v; decide

variable (m : (ℓ : Loc nD τ sig) → Buf (Elt Ideal) ℓ) (ρ : Dev nD → PrngReg) (c : Dev nD)
  (X : FVec Ideal Cert.ReferenceIdeal.S2048x128 .bf16) (R : FVec Ideal Cert.ReferenceIdeal.S128x16 .bf16) (I : IVec Cert.ReferenceIdeal.S2048x1 32)
  (W : FVec Ideal Cert.ReferenceIdeal.S16x128x256 .bf16) (H : FVec Ideal Cert.ReferenceIdeal.S128x256 .bf16)

/-- Device `c`'s result at a token and a column is the reference's at the same token among all and that column. -/
theorem equation
    (hX : ∀ t d, aX m c (ix2 t d) = X (ix2 (tok c t) d)) (hR : ∀ d e, aR m c (ix2 d e) = R (ix2 d e))
    (hI : ∀ t, aI m c (ix2 t (0 : Fin 1)) = I (ix2 (tok c t) (0 : Fin 1)))
    (hW : ∀ (v : Fin 8) (j : Fin 2) d h, aW m v (ix3 j d h) = W (ix3 (expert v j) d h)) (hH : ∀ d h, aH m c (ix2 d h) = H (ix2 d h))
    (fX : ∀ t d, Moe.Fin' (aX m c (ix2 t d))) (fR : ∀ d e, Moe.Fin' (aR m c (ix2 d e))) (t h : Fin 256) :
    outAt m ρ c (ix2 t h) = ReferenceIdealProof.outOf X R I W H (ix2 (tok c t) h) := by
  have hg : ∀ e, ∃ p : ℝ, 0 ≤ p ∧ coef m c t e = (p : EReal) := fun e =>
    Moe.gate_real _ _ (fun e => Moe.fin_dot _ _ (fun d => fX t d) (fun d => fR d e)) e
  have ha : ∀ (v : Fin 8) (j : Fin 2) (w : Fin 128 → EReal),
      adds m c t v j w = coef m c t (expert v j) * Moe.dot (fun d => X (ix2 (tok c t) d)) w := fun v j w => by
    unfold adds
    rw [Moe.dot_gate _ (hg _)]
    simp only [hX]
  have hterm : ∀ (v : Fin 8) (j : Fin 2), ReferenceIdealProof.termsOf X R I W (ix3 (tok c t) (expert v j) h)
      = coef m c t (expert v j) * Scalar.select (if c = v then 1#1 else 0#1)
          (Moe.dot (fun d => X (ix2 (tok c t) d)) (fun d => aW m v (ix3 j d h)))
          (Moe.dot (fun d => X (ix2 (tok c t) d)) (Moe.sent fun d => aW m v (ix3 j d h))) := fun v j => by
    rw [ReferenceIdealProof.termsOf_apply, same_device]
    unfold coef
    simp only [hX, hR, hI, hW]
  have hown : ∀ j : Fin 2, ReferenceIdealProof.termsOf X R I W (ix3 (tok c t) (expert c j) h)
      = adds m c t c j (fun d => aW m c (ix3 j d h)) := fun j => by
    rw [hterm, if_pos rfl, ha]; rfl
  have hother : ∀ (k : Fin 7) (j : Fin 2), ReferenceIdealProof.termsOf X R I W (ix3 (tok c t) (expert (bwd k c) j) h)
      = adds m c t (bwd k c) j (Moe.sent fun d => aW m (bwd k c) (ix3 j d h)) := fun k j => by
    rw [hterm, if_neg (bwd_ne k c).symm, ha]; rfl
  rw [ReferenceIdealProof.outOf_apply, sum_experts, sum_devices c, outAt_apply]
  simp only [hX, hH, hown, hother]
  rfl

/-! ## The precondition -/

/-- The precondition says that every entry of the tokens and of the router's weights is finite. -/
theorem finite_of_pre (x : FVec Ideal Cert.Pre_finite_KernelIdeal.S256x128 .bf16) (r : FVec Ideal Cert.Pre_finite_KernelIdeal.S128x16 .bf16)
    (i : IVec Cert.Pre_finite_KernelIdeal.S256x1 32) (w : FVec Ideal Cert.Pre_finite_KernelIdeal.S2x128x256 .bf16)
    (s : FVec Ideal Cert.Pre_finite_KernelIdeal.S128x256 .bf16)
    (h : Cert.Pre_finite_KernelIdeal.fn (F := Ideal) x r i w s = fun _ => 1#1) :
    (∀ a, Moe.Fin' (x a)) ∧ ∀ a, Moe.Fin' (r a) := by
  have hinf : Ideal.ofBits .bf16 0x7F80#16 = ⊤ := by simp [Ideal.ofBits, Ideal.ieee]
  have lt_of : ∀ a : EReal, Ideal.cmp .olt (max a (-a)) (Ideal.ofBits .bf16 0x7F80#16) = 1#1 → Moe.Fin' a := fun a ha => by
    refine Moe.fin_of_abs_lt a ?_
    rw [hinf] at ha
    by_contra hn
    have h0 : Ideal.cmp .olt (max a (-a)) ⊤ = 0#1 := by simp [Ideal.cmp, hn]
    exact absurd (h0.symm.trans ha) (by decide)
  have h0 := congrFun h ix0
  obtain ⟨hx, hr⟩ := IntOp.andi_eq_one.1 h0
  haveI : Subsingleton Cert.Pre_finite_KernelIdeal.S_.Idx := ⟨fun a b => funext fun k => k.elim0⟩
  exact ⟨fun a => lt_of _ (Host.reduce_andi_all _ _ _ _ _ hx a), fun a => lt_of _ (Host.reduce_andi_all _ _ _ _ _ hr a)⟩

/-! ## The claim -/

/-- The kernel and the reference compute the same function over the extended reals. -/
theorem algebraic : algebraic_KernelIdeal_ReferenceIdeal_pre_finite_KernelIdeal := by
  intro m g m' g' hpre hargs
  refine ⟨Cert.ReferenceIdeal.Value.res_out0 m' 0, ?_, ?_⟩
  · refine (θ_run _ _ _).mono (fun r h c => ?_) (run_arrays m g)
    obtain ⟨hout, hrest⟩ := h.1 c
    refine ⟨hout.trans ?_, hrest⟩
    funext i
    obtain ⟨t, q, rfl⟩ : ∃ (t : Fin 256) (q : Fin 256), i = ix2 t q := ⟨i 0, i 1, eq_ix2 i⟩
    obtain ⟨h0, h1, h2, h3, h4⟩ := hargs c
    obtain ⟨fx, fr⟩ := finite_of_pre _ _ _ _ _ (hpre c)
    rw [ReferenceIdealProof.res_eq]
    refine (equation m g c (m' ((0 : Dev Cert.ReferenceIdeal.nD).tc.loc Cert.ReferenceIdeal.main_arg0)) (m' ((0 : Dev Cert.ReferenceIdeal.nD).tc.loc Cert.ReferenceIdeal.main_arg1))
      (m' ((0 : Dev Cert.ReferenceIdeal.nD).tc.loc Cert.ReferenceIdeal.main_arg2)) (m' ((0 : Dev Cert.ReferenceIdeal.nD).tc.loc Cert.ReferenceIdeal.main_arg3))
      (m' ((0 : Dev Cert.ReferenceIdeal.nD).tc.loc Cert.ReferenceIdeal.main_arg4))
      (fun t d => ?_) (fun d e => congrFun h1 _) (fun t => ?_) (fun v j d q => ?_) (fun d q => congrFun h4 _)
      (fun t d => fx _) (fun d e => fr _) t q).trans ?_
    · refine (congrFun h0 _).trans (congrArg (m' ((0 : Dev Cert.ReferenceIdeal.nD).tc.loc Cert.ReferenceIdeal.main_arg0)) ?_)
      funext a; apply Fin.ext
      match a with
      | ⟨0, _⟩ => rfl
      | ⟨1, _⟩ => rfl
    · refine (congrFun h2 _).trans (congrArg (m' ((0 : Dev Cert.ReferenceIdeal.nD).tc.loc Cert.ReferenceIdeal.main_arg2)) ?_)
      funext a; apply Fin.ext
      match a with
      | ⟨0, _⟩ => rfl
      | ⟨1, _⟩ => rfl
    · refine (congrFun (hargs v).2.2.2.1 _).trans (congrArg (m' ((0 : Dev Cert.ReferenceIdeal.nD).tc.loc Cert.ReferenceIdeal.main_arg3)) ?_)
      funext a; apply Fin.ext
      match a with
      | ⟨0, _⟩ => show v.val * 2 + j.val = 2 * v.val + j.val; omega
      | ⟨1, _⟩ => rfl
      | ⟨2, _⟩ => rfl
    · refine congrArg (ReferenceIdealProof.outOf _ _ _ _ _) ?_
      funext a; apply Fin.ext
      match a with
      | ⟨0, _⟩ => rfl
      | ⟨1, _⟩ => rfl
  · exact (θ_run _ _ _).mono (fun r h => h 0) (Cert.ReferenceIdeal.Value.run (F := Ideal) m' g')

end Cert.Equal

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Frames
public import proofs.«01_k».proof.Proof.Equal

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, Cert.KernelIdealProof.frame_kernel, Cert.KernelIdealProof.frame_kernelIdeal,
    fun m g _ => Cert.KernelIdealProof.frame_kernelIdeal m g trivial, Cert.KernelIdealProof.frame_referenceIdeal,
    fun m g _ => Cert.KernelIdealProof.frame_referenceIdeal m g trivial,
    IdealRules.named_const.statement _ _ _ _ _ rfl, Cert.Equal.algebraic⟩

end Cert.Proof

end
